-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_v7) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S1x16384x1024 : Shape := ⟨3, ![1, 16384, 1024]⟩
abbrev S1x3072 : Shape := ⟨2, ![1, 3072]⟩
abbrev S1x2048 : Shape := ⟨2, ![1, 2048]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S16384x1024 : Shape := ⟨2, ![16384, 1024]⟩
abbrev S1024x5632 : Shape := ⟨2, ![1024, 5632]⟩
abbrev S3x2816 : Shape := ⟨2, ![3, 2816]⟩
abbrev S2816x1024 : Shape := ⟨2, ![2816, 1024]⟩
abbrev S528x2816 : Shape := ⟨2, ![528, 2816]⟩
abbrev S512x2816 : Shape := ⟨2, ![512, 2816]⟩
abbrev S8x2816 : Shape := ⟨2, ![8, 2816]⟩
abbrev S2x512x1024 : Shape := ⟨3, ![2, 512, 1024]⟩
abbrev S2 : Shape := ⟨1, ![2]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S3x256 : Shape := ⟨2, ![3, 256]⟩
abbrev S1x256 : Shape := ⟨2, ![1, 256]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 16
  | .vmem => 13
  | .smem => 0
  | _ => 0

abbrev bufTy : (tb : Table) → Fin (tcTables nBuf tb) → BufTy
  | .hbm, ⟨0, _⟩ => ⟨S1x16384x1024, .f32⟩
  | .hbm, ⟨1, _⟩ => ⟨S1x3072, .f32⟩
  | .hbm, ⟨2, _⟩ => ⟨S1x2048, .f32⟩
  | .hbm, ⟨3, _⟩ => ⟨S1x1024, .f32⟩
  | .hbm, ⟨4, _⟩ => ⟨S1x1024x5632, .f32⟩
  | .hbm, ⟨5, _⟩ => ⟨S1x3x2816, .f32⟩
  | .hbm, ⟨6, _⟩ => ⟨S1x2816, .f32⟩
  | .hbm, ⟨7, _⟩ => ⟨S1x2816x1024, .f32⟩
  | .hbm, ⟨8, _⟩ => ⟨S1024, .f32⟩
  | .hbm, ⟨9, _⟩ => ⟨S16384x1024, .f32⟩
  | .hbm, ⟨10, _⟩ => ⟨S1024x5632, .f32⟩
  | .hbm, ⟨11, _⟩ => ⟨S1024x5632, .bf16⟩
  | .hbm, ⟨12, _⟩ => ⟨S3x2816, .f32⟩
  | .hbm, ⟨13, _⟩ => ⟨S2816x1024, .f32⟩
  | .hbm, ⟨14, _⟩ => ⟨S2816x1024, .bf16⟩
  | .hbm, ⟨15, _⟩ => ⟨S16384x1024, .f32⟩
  | .local _ .vmem, ⟨0, _⟩ => ⟨S1x3072, .f32⟩
  | .local _ .vmem, ⟨1, _⟩ => ⟨S1x2048, .f32⟩
  | .local _ .vmem, ⟨2, _⟩ => ⟨S1x1024, .f32⟩
  | .local _ .vmem, ⟨3, _⟩ => ⟨S1024x5632, .bf16⟩
  | .local _ .vmem, ⟨4, _⟩ => ⟨S3x2816, .f32⟩
  | .local _ .vmem, ⟨5, _⟩ => ⟨S1x2816, .f32⟩
  | .local _ .vmem, ⟨6, _⟩ => ⟨S2816x1024, .bf16⟩
  | .local _ .vmem, ⟨7, _⟩ => ⟨S1024, .f32⟩
  | .local _ .vmem, ⟨8, _⟩ => ⟨S528x2816, .f32⟩
  | .local _ .vmem, ⟨9, _⟩ => ⟨S528x2816, .f32⟩
  | .local _ .vmem, ⟨10, _⟩ => ⟨S512x2816, .bf16⟩
  | .local _ .vmem, ⟨11, _⟩ => ⟨S2x512x1024, .f32⟩
  | .local _ .vmem, ⟨12, _⟩ => ⟨S2x512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scoped0 : Ref sig .tc := ⟨.vmem, 11, rfl⟩
abbrev cc0_scoped2 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

def k0_off1 : Fin 1 → Nat :=
  let c0_i32_15_r0 : BitVec 32 := 0#32
  let c2_i32_r0 : BitVec 32 := 2#32
  let v23_r0 : BitVec 32 := Scalar.remui c0_i32_15_r0 c2_i32_r0
  ![v23_r0.toNat]
def k0_off2 : Fin 3 → Nat :=
  let c0_i32_15_r0 : BitVec 32 := 0#32
  let c2_i32_r0 : BitVec 32 := 2#32
  let v23_r0 : BitVec 32 := Scalar.remui c0_i32_15_r0 c2_i32_r0
  let c0_i32_16_r0 : BitVec 32 := 0#32
  let c0_i32_17_r0 : BitVec 32 := 0#32
  ![v23_r0.toNat, 0, 0]
@[reducible] def k0_t1_loop : Scf.Loop 32 :=
  let c0_i32_26_r0 : BitVec 32 := 0#32
  let c32_i32_27_r0 : BitVec 32 := 32#32
  let v30_r0 : BitVec 32 := Scalar.addi c0_i32_26_r0 c32_i32_27_r0
  let c1_i32_28_r0 : BitVec 32 := 1#32
  ⟨c0_i32_26_r0, v30_r0, c1_i32_28_r0⟩
def k0_off3 (arg14_r0 : BitVec 32) : Fin 1 → Nat :=
  let c2_i32_352_r0 : BitVec 32 := 2#32
  let v641_r0 : BitVec 32 := Scalar.remui arg14_r0 c2_i32_352_r0
  ![v641_r0.toNat]
def k0_cond1 (k0_t1 : Fin k0_t1_loop.trips) (arg18_r0 : BitVec 32) : BitVec 1 :=
  let c0_i32_56_r0 : BitVec 32 := 0#32
  let v61_r0 : BitVec 32 := Scalar.addi arg18_r0 c0_i32_56_r0
  let true_63_r0 : BitVec 1 := 1#1
  let c1_i32_62_r0 : BitVec 32 := 1#32
  let v67_r0 : BitVec 32 := Scalar.addi arg18_r0 c1_i32_62_r0
  let v68_r0 : BitVec 32 := Scalar.select true_63_r0 v67_r0 arg18_r0
  let c32_i32_64_r0 : BitVec 32 := 32#32
  let v69_r0 : BitVec 1 := Scalar.cmpi .eq v68_r0 c32_i32_64_r0
  let c0_i32_65_r0 : BitVec 32 := 0#32
  let v70_r0 : BitVec 32 := Scalar.select v69_r0 c0_i32_65_r0 v68_r0
  let c0_i32_66_r0 : BitVec 32 := 0#32
  let v71_r0 : BitVec 32 := Scalar.addi v70_r0 c0_i32_66_r0
  let v77_r0 : BitVec 1 := Scalar.cmpi .ne v61_r0 v71_r0
  let c0_i32_26_r0 : BitVec 32 := 0#32
  let c1_i32_28_r0 : BitVec 32 := 1#32
  let arg13_r0 : BitVec 32 := Scf.iv c0_i32_26_r0 c1_i32_28_r0 k0_t1
  let c31_i32_72_r0 : BitVec 32 := 31#32
  let v78_r0 : BitVec 1 := Scalar.cmpi .sge arg13_r0 c31_i32_72_r0
  let true_73_r0 : BitVec 1 := 1#1
  let v79_r0 : BitVec 1 := Scalar.xori v78_r0 true_73_r0
  let v80_r0 : BitVec 1 := Scalar.andi v77_r0 v79_r0
  let true_74_r0 : BitVec 1 := 1#1
  let v81_r0 : BitVec 1 := Scalar.andi v80_r0 true_74_r0
  let v82_r0 : BitVec 32 := Scalar.extui v81_r0
  let c0_i32_75_r0 : BitVec 32 := 0#32
  let v83_r0 : BitVec 1 := Scalar.cmpi .ne v82_r0 c0_i32_75_r0
  v83_r0

def k0_off4 (arg14_r0 : BitVec 32) : Fin 3 → Nat :=
  let c2_i32_352_r0 : BitVec 32 := 2#32
  let v641_r0 : BitVec 32 := Scalar.remui arg14_r0 c2_i32_352_r0
  let c0_i32_354_r0 : BitVec 32 := 0#32
  let c0_i32_355_r0 : BitVec 32 := 0#32
  ![v641_r0.toNat, 0, 0]
def k0_off5 (arg18_r0 : BitVec 32) : Fin 2 → Nat :=
  let c512_i32_353_r0 : BitVec 32 := 512#32
  let true_63_r0 : BitVec 1 := 1#1
  let c1_i32_62_r0 : BitVec 32 := 1#32
  let v67_r0 : BitVec 32 := Scalar.addi arg18_r0 c1_i32_62_r0
  let v68_r0 : BitVec 32 := Scalar.select true_63_r0 v67_r0 arg18_r0
  let c32_i32_64_r0 : BitVec 32 := 32#32
  let v69_r0 : BitVec 1 := Scalar.cmpi .eq v68_r0 c32_i32_64_r0
  let c0_i32_65_r0 : BitVec 32 := 0#32
  let v70_r0 : BitVec 32 := Scalar.select v69_r0 c0_i32_65_r0 v68_r0
  let c0_i32_66_r0 : BitVec 32 := 0#32
  let v71_r0 : BitVec 32 := Scalar.addi v70_r0 c0_i32_66_r0
  let v642_r0 : BitVec 32 := Scalar.muli c512_i32_353_r0 v71_r0
  let c0_i32_356_r0 : BitVec 32 := 0#32
  ![v642_r0.toNat, 0]
def k0_off6 (arg15_r0 : BitVec 32) : Fin 1 → Nat :=
  let c2_i32_353_r0 : BitVec 32 := 2#32
  let v642_r0 : BitVec 32 := Scalar.remui arg15_r0 c2_i32_353_r0
  ![v642_r0.toNat]
def k0_cond2 (k0_t1 : Fin k0_t1_loop.trips) (arg18_r0 : BitVec 32) : BitVec 1 :=
  let c0_i32_56_r0 : BitVec 32 := 0#32
  let v61_r0 : BitVec 32 := Scalar.addi arg18_r0 c0_i32_56_r0
  let true_58_r0 : BitVec 1 := 1#1
  let c1_i32_57_r0 : BitVec 32 := 1#32
  let v62_r0 : BitVec 32 := Scalar.subi arg18_r0 c1_i32_57_r0
  let v63_r0 : BitVec 32 := Scalar.select true_58_r0 v62_r0 arg18_r0
  let c_m1_i32_59_r0 : BitVec 32 := 4294967295#32
  let v64_r0 : BitVec 1 := Scalar.cmpi .eq v63_r0 c_m1_i32_59_r0
  let c31_i32_60_r0 : BitVec 32 := 31#32
  let v65_r0 : BitVec 32 := Scalar.select v64_r0 c31_i32_60_r0 v63_r0
  let c0_i32_61_r0 : BitVec 32 := 0#32
  let v66_r0 : BitVec 32 := Scalar.addi v65_r0 c0_i32_61_r0
  let v91_r0 : BitVec 1 := Scalar.cmpi .ne v61_r0 v66_r0
  let c0_i32_26_r0 : BitVec 32 := 0#32
  let c1_i32_28_r0 : BitVec 32 := 1#32
  let arg13_r0 : BitVec 32 := Scf.iv c0_i32_26_r0 c1_i32_28_r0 k0_t1
  let c0_i32_54_r0 : BitVec 32 := 0#32
  let v59_r0 : BitVec 1 := Scalar.cmpi .eq arg13_r0 c0_i32_54_r0
  let v92_r0 : BitVec 1 := Scalar.ori v91_r0 v59_r0
  let c0_i32_80_r0 : BitVec 32 := 0#32
  let v93_r0 : BitVec 1 := Scalar.cmpi .sge arg13_r0 c0_i32_80_r0
  let v94_r0 : BitVec 1 := Scalar.andi v92_r0 v93_r0
  let v95_r0 : BitVec 32 := Scalar.extui v94_r0
  let c0_i32_81_r0 : BitVec 32 := 0#32
  let v96_r0 : BitVec 1 := Scalar.cmpi .ne v95_r0 c0_i32_81_r0
  v96_r0

def k0_off7 (arg15_r0 : BitVec 32) : Fin 3 → Nat :=
  let c2_i32_353_r0 : BitVec 32 := 2#32
  let v642_r0 : BitVec 32 := Scalar.remui arg15_r0 c2_i32_353_r0
  let c0_i32_354_r0 : BitVec 32 := 0#32
  let c0_i32_355_r0 : BitVec 32 := 0#32
  ![v642_r0.toNat, 0, 0]
def k0_off8 (arg18_r0 : BitVec 32) : Fin 2 → Nat :=
  let c512_i32_352_r0 : BitVec 32 := 512#32
  let c0_i32_56_r0 : BitVec 32 := 0#32
  let v61_r0 : BitVec 32 := Scalar.addi arg18_r0 c0_i32_56_r0
  let v641_r0 : BitVec 32 := Scalar.muli c512_i32_352_r0 v61_r0
  let c0_i32_356_r0 : BitVec 32 := 0#32
  ![v641_r0.toNat, 0]
def k0_off9 (arg15_r0 : BitVec 32) : Fin 3 → Nat :=
  let c2_i32_84_r0 : BitVec 32 := 2#32
  let v103_r0 : BitVec 32 := Scalar.remui arg15_r0 c2_i32_84_r0
  let v118_r0 : Index := Scalar.indexCast v103_r0
  let c0_101_r0 : Index := 0#32
  let c0_102_r0 : Index := 0#32
  ![v118_r0.toNat, 0, 0]

def k0_chk2 (arg15_r0 : BitVec 32) : Prop :=
  (∀ a, (k0_off9 arg15_r0) a + S1x512x1024.size a ≤ S2x512x1024.size a)
theorem k0_off9_inb : ∀ (arg15_r0 : BitVec 32) (k0_hw2 : k0_chk2 arg15_r0), ∀ a, (k0_off9 arg15_r0) a + S1x512x1024.size a ≤ S2x512x1024.size a := fun arg15_r0 k0_hw2 => k0_hw2

def k0_off10 (arg16_r0 : BitVec 32) : Fin 3 → Nat :=
  let c2_i32_85_r0 : BitVec 32 := 2#32
  let v104_r0 : BitVec 32 := Scalar.remui arg16_r0 c2_i32_85_r0
  let c0_i32_318_r0 : BitVec 32 := 0#32
  let c0_i32_319_r0 : BitVec 32 := 0#32
  ![v104_r0.toNat, 0, 0]

def k0_chk3 (arg16_r0 : BitVec 32) : Prop :=
  (∀ a, (k0_off10 arg16_r0) a + S1x512x1024.size a ≤ S2x512x1024.size a)
theorem k0_off10_inb : ∀ (arg16_r0 : BitVec 32) (k0_hw3 : k0_chk3 arg16_r0), ∀ a, (k0_off10 arg16_r0) a + S1x512x1024.size a ≤ S2x512x1024.size a := fun arg16_r0 k0_hw3 => k0_hw3

def k0_off11 (arg16_r0 : BitVec 32) : Fin 1 → Nat :=
  let c2_i32_352_r0 : BitVec 32 := 2#32
  let v641_r0 : BitVec 32 := Scalar.remui arg16_r0 c2_i32_352_r0
  ![v641_r0.toNat]
def k0_cond5 (k0_t1 : Fin k0_t1_loop.trips) (arg18_r0 : BitVec 32) : BitVec 1 :=
  let c0_i32_56_r0 : BitVec 32 := 0#32
  let v61_r0 : BitVec 32 := Scalar.addi arg18_r0 c0_i32_56_r0
  let true_63_r0 : BitVec 1 := 1#1
  let c1_i32_62_r0 : BitVec 32 := 1#32
  let v67_r0 : BitVec 32 := Scalar.addi arg18_r0 c1_i32_62_r0
  let v68_r0 : BitVec 32 := Scalar.select true_63_r0 v67_r0 arg18_r0
  let c32_i32_64_r0 : BitVec 32 := 32#32
  let v69_r0 : BitVec 1 := Scalar.cmpi .eq v68_r0 c32_i32_64_r0
  let c0_i32_65_r0 : BitVec 32 := 0#32
  let v70_r0 : BitVec 32 := Scalar.select v69_r0 c0_i32_65_r0 v68_r0
  let c0_i32_66_r0 : BitVec 32 := 0#32
  let v71_r0 : BitVec 32 := Scalar.addi v70_r0 c0_i32_66_r0
  let v612_r0 : BitVec 1 := Scalar.cmpi .ne v61_r0 v71_r0
  let c0_i32_26_r0 : BitVec 32 := 0#32
  let c1_i32_28_r0 : BitVec 32 := 1#32
  let arg13_r0 : BitVec 32 := Scf.iv c0_i32_26_r0 c1_i32_28_r0 k0_t1
  let c31_i32_55_r0 : BitVec 32 := 31#32
  let v60_r0 : BitVec 1 := Scalar.cmpi .eq arg13_r0 c31_i32_55_r0
  let v613_r0 : BitVec 1 := Scalar.ori v612_r0 v60_r0
  let v614_r0 : BitVec 32 := Scalar.extui v613_r0
  let c0_i32_337_r0 : BitVec 32 := 0#32
  let v615_r0 : BitVec 1 := Scalar.cmpi .ne v614_r0 c0_i32_337_r0
  v615_r0

def k0_off12 (arg18_r0 : BitVec 32) : Fin 2 → Nat :=
  let c512_i32_353_r0 : BitVec 32 := 512#32
  let c0_i32_56_r0 : BitVec 32 := 0#32
  let v61_r0 : BitVec 32 := Scalar.addi arg18_r0 c0_i32_56_r0
  let v642_r0 : BitVec 32 := Scalar.muli c512_i32_353_r0 v61_r0
  let c0_i32_354_r0 : BitVec 32 := 0#32
  ![v642_r0.toNat, 0]
def k0_off13 (arg16_r0 : BitVec 32) : Fin 3 → Nat :=
  let c2_i32_352_r0 : BitVec 32 := 2#32
  let v641_r0 : BitVec 32 := Scalar.remui arg16_r0 c2_i32_352_r0
  let c0_i32_355_r0 : BitVec 32 := 0#32
  let c0_i32_356_r0 : BitVec 32 := 0#32
  ![v641_r0.toNat, 0, 0]
def k0_off14 (arg17_r0 : BitVec 32) : Fin 1 → Nat :=
  let c2_i32_352_r0 : BitVec 32 := 2#32
  let v641_r0 : BitVec 32 := Scalar.remui arg17_r0 c2_i32_352_r0
  ![v641_r0.toNat]
def k0_cond7 (k0_t1 : Fin k0_t1_loop.trips) (arg18_r0 : BitVec 32) : BitVec 1 :=
  let c0_i32_56_r0 : BitVec 32 := 0#32
  let v61_r0 : BitVec 32 := Scalar.addi arg18_r0 c0_i32_56_r0
  let true_58_r0 : BitVec 1 := 1#1
  let c1_i32_57_r0 : BitVec 32 := 1#32
  let v62_r0 : BitVec 32 := Scalar.subi arg18_r0 c1_i32_57_r0
  let v63_r0 : BitVec 32 := Scalar.select true_58_r0 v62_r0 arg18_r0
  let c_m1_i32_59_r0 : BitVec 32 := 4294967295#32
  let v64_r0 : BitVec 1 := Scalar.cmpi .eq v63_r0 c_m1_i32_59_r0
  let c31_i32_60_r0 : BitVec 32 := 31#32
  let v65_r0 : BitVec 32 := Scalar.select v64_r0 c31_i32_60_r0 v63_r0
  let c0_i32_61_r0 : BitVec 32 := 0#32
  let v66_r0 : BitVec 32 := Scalar.addi v65_r0 c0_i32_61_r0
  let v625_r0 : BitVec 1 := Scalar.cmpi .ne v61_r0 v66_r0
  let c0_i32_26_r0 : BitVec 32 := 0#32
  let c1_i32_28_r0 : BitVec 32 := 1#32
  let arg13_r0 : BitVec 32 := Scf.iv c0_i32_26_r0 c1_i32_28_r0 k0_t1
  let c0_i32_54_r0 : BitVec 32 := 0#32
  let v59_r0 : BitVec 1 := Scalar.cmpi .eq arg13_r0 c0_i32_54_r0
  let true_343_r0 : BitVec 1 := 1#1
  let v626_r0 : BitVec 1 := Scalar.xori v59_r0 true_343_r0
  let v627_r0 : BitVec 1 := Scalar.andi v625_r0 v626_r0
  let v628_r0 : BitVec 32 := Scalar.extui v627_r0
  let c0_i32_344_r0 : BitVec 32 := 0#32
  let v629_r0 : BitVec 1 := Scalar.cmpi .ne v628_r0 c0_i32_344_r0
  v629_r0

def k0_off15 (arg18_r0 : BitVec 32) : Fin 2 → Nat :=
  let c512_i32_353_r0 : BitVec 32 := 512#32
  let true_58_r0 : BitVec 1 := 1#1
  let c1_i32_57_r0 : BitVec 32 := 1#32
  let v62_r0 : BitVec 32 := Scalar.subi arg18_r0 c1_i32_57_r0
  let v63_r0 : BitVec 32 := Scalar.select true_58_r0 v62_r0 arg18_r0
  let c_m1_i32_59_r0 : BitVec 32 := 4294967295#32
  let v64_r0 : BitVec 1 := Scalar.cmpi .eq v63_r0 c_m1_i32_59_r0
  let c31_i32_60_r0 : BitVec 32 := 31#32
  let v65_r0 : BitVec 32 := Scalar.select v64_r0 c31_i32_60_r0 v63_r0
  let c0_i32_61_r0 : BitVec 32 := 0#32
  let v66_r0 : BitVec 32 := Scalar.addi v65_r0 c0_i32_61_r0
  let v642_r0 : BitVec 32 := Scalar.muli c512_i32_353_r0 v66_r0
  let c0_i32_354_r0 : BitVec 32 := 0#32
  ![v642_r0.toNat, 0]
def k0_off16 (arg17_r0 : BitVec 32) : Fin 3 → Nat :=
  let c2_i32_352_r0 : BitVec 32 := 2#32
  let v641_r0 : BitVec 32 := Scalar.remui arg17_r0 c2_i32_352_r0
  let c0_i32_355_r0 : BitVec 32 := 0#32
  let c0_i32_356_r0 : BitVec 32 := 0#32
  ![v641_r0.toNat, 0, 0]

def k0_chk1 (k0_t1 : Fin k0_t1_loop.trips) (arg14_r0 : BitVec 32) (arg15_r0 : BitVec 32) (arg16_r0 : BitVec 32) (arg17_r0 : BitVec 32) (arg18_r0 : BitVec 32) : Prop :=
  (∀ (k0_h1 : k0_cond1 k0_t1 arg18_r0 = 1#1), ∀ a, (k0_off3 arg14_r0) a + S1.size a ≤ S2.size a) ∧
  (∀ (k0_h1 : k0_cond1 k0_t1 arg18_r0 = 1#1), ∀ a, (k0_off4 arg14_r0) a + S1x512x1024.size a ≤ S2x512x1024.size a) ∧
  (∀ (k0_h1 : k0_cond1 k0_t1 arg18_r0 = 1#1), ∀ a, (k0_off5 arg18_r0) a + S512x1024.size a ≤ S16384x1024.size a) ∧
  (∀ (k0_h2 : k0_cond2 k0_t1 arg18_r0 = 1#1), ∀ a, (k0_off6 arg15_r0) a + S1.size a ≤ S2.size a) ∧
  (∀ (k0_h2 : k0_cond2 k0_t1 arg18_r0 = 1#1), ∀ a, (k0_off7 arg15_r0) a + S1x512x1024.size a ≤ S2x512x1024.size a) ∧
  (∀ (k0_h2 : k0_cond2 k0_t1 arg18_r0 = 1#1), ∀ a, (k0_off8 arg18_r0) a + S512x1024.size a ≤ S16384x1024.size a) ∧
  (∀ (k0_h5 : k0_cond5 k0_t1 arg18_r0 = 1#1), ∀ a, (k0_off11 arg16_r0) a + S1.size a ≤ S2.size a) ∧
  (∀ (k0_h5 : k0_cond5 k0_t1 arg18_r0 = 1#1), ∀ a, (k0_off12 arg18_r0) a + S512x1024.size a ≤ S16384x1024.size a) ∧
  (∀ (k0_h5 : k0_cond5 k0_t1 arg18_r0 = 1#1), ∀ a, (k0_off13 arg16_r0) a + S1x512x1024.size a ≤ S2x512x1024.size a) ∧
  (∀ (k0_h7 : k0_cond7 k0_t1 arg18_r0 = 1#1), ∀ a, (k0_off14 arg17_r0) a + S1.size a ≤ S2.size a) ∧
  (∀ (k0_h7 : k0_cond7 k0_t1 arg18_r0 = 1#1), ∀ a, (k0_off15 arg18_r0) a + S512x1024.size a ≤ S16384x1024.size a) ∧
  (∀ (k0_h7 : k0_cond7 k0_t1 arg18_r0 = 1#1), ∀ a, (k0_off16 arg17_r0) a + S1x512x1024.size a ≤ S2x512x1024.size a)
theorem k0_off3_inb : ∀ (k0_t1 : Fin k0_t1_loop.trips) (arg14_r0 : BitVec 32) (arg15_r0 : BitVec 32) (arg16_r0 : BitVec 32) (arg17_r0 : BitVec 32) (arg18_r0 : BitVec 32) (k0_hw1 : k0_chk1 k0_t1 arg14_r0 arg15_r0 arg16_r0 arg17_r0 arg18_r0), ∀ (k0_h1 : k0_cond1 k0_t1 arg18_r0 = 1#1), ∀ a, (k0_off3 arg14_r0) a + S1.size a ≤ S2.size a := fun k0_t1 arg14_r0 arg15_r0 arg16_r0 arg17_r0 arg18_r0 k0_hw1 k0_h1 => k0_hw1.1 k0_h1
theorem k0_off4_inb : ∀ (k0_t1 : Fin k0_t1_loop.trips) (arg14_r0 : BitVec 32) (arg15_r0 : BitVec 32) (arg16_r0 : BitVec 32) (arg17_r0 : BitVec 32) (arg18_r0 : BitVec 32) (k0_hw1 : k0_chk1 k0_t1 arg14_r0 arg15_r0 arg16_r0 arg17_r0 arg18_r0), ∀ (k0_h1 : k0_cond1 k0_t1 arg18_r0 = 1#1), ∀ a, (k0_off4 arg14_r0) a + S1x512x1024.size a ≤ S2x512x1024.size a := fun k0_t1 arg14_r0 arg15_r0 arg16_r0 arg17_r0 arg18_r0 k0_hw1 k0_h1 => k0_hw1.2.1 k0_h1
theorem k0_off5_inb : ∀ (k0_t1 : Fin k0_t1_loop.trips) (arg14_r0 : BitVec 32) (arg15_r0 : BitVec 32) (arg16_r0 : BitVec 32) (arg17_r0 : BitVec 32) (arg18_r0 : BitVec 32) (k0_hw1 : k0_chk1 k0_t1 arg14_r0 arg15_r0 arg16_r0 arg17_r0 arg18_r0), ∀ (k0_h1 : k0_cond1 k0_t1 arg18_r0 = 1#1), ∀ a, (k0_off5 arg18_r0) a + S512x1024.size a ≤ S16384x1024.size a := fun k0_t1 arg14_r0 arg15_r0 arg16_r0 arg17_r0 arg18_r0 k0_hw1 k0_h1 => k0_hw1.2.2.1 k0_h1
theorem k0_off6_inb : ∀ (k0_t1 : Fin k0_t1_loop.trips) (arg14_r0 : BitVec 32) (arg15_r0 : BitVec 32) (arg16_r0 : BitVec 32) (arg17_r0 : BitVec 32) (arg18_r0 : BitVec 32) (k0_hw1 : k0_chk1 k0_t1 arg14_r0 arg15_r0 arg16_r0 arg17_r0 arg18_r0), ∀ (k0_h2 : k0_cond2 k0_t1 arg18_r0 = 1#1), ∀ a, (k0_off6 arg15_r0) a + S1.size a ≤ S2.size a := fun k0_t1 arg14_r0 arg15_r0 arg16_r0 arg17_r0 arg18_r0 k0_hw1 k0_h2 => k0_hw1.2.2.2.1 k0_h2
theorem k0_off7_inb : ∀ (k0_t1 : Fin k0_t1_loop.trips) (arg14_r0 : BitVec 32) (arg15_r0 : BitVec 32) (arg16_r0 : BitVec 32) (arg17_r0 : BitVec 32) (arg18_r0 : BitVec 32) (k0_hw1 : k0_chk1 k0_t1 arg14_r0 arg15_r0 arg16_r0 arg17_r0 arg18_r0), ∀ (k0_h2 : k0_cond2 k0_t1 arg18_r0 = 1#1), ∀ a, (k0_off7 arg15_r0) a + S1x512x1024.size a ≤ S2x512x1024.size a := fun k0_t1 arg14_r0 arg15_r0 arg16_r0 arg17_r0 arg18_r0 k0_hw1 k0_h2 => k0_hw1.2.2.2.2.1 k0_h2
theorem k0_off8_inb : ∀ (k0_t1 : Fin k0_t1_loop.trips) (arg14_r0 : BitVec 32) (arg15_r0 : BitVec 32) (arg16_r0 : BitVec 32) (arg17_r0 : BitVec 32) (arg18_r0 : BitVec 32) (k0_hw1 : k0_chk1 k0_t1 arg14_r0 arg15_r0 arg16_r0 arg17_r0 arg18_r0), ∀ (k0_h2 : k0_cond2 k0_t1 arg18_r0 = 1#1), ∀ a, (k0_off8 arg18_r0) a + S512x1024.size a ≤ S16384x1024.size a := fun k0_t1 arg14_r0 arg15_r0 arg16_r0 arg17_r0 arg18_r0 k0_hw1 k0_h2 => k0_hw1.2.2.2.2.2.1 k0_h2
theorem k0_off11_inb : ∀ (k0_t1 : Fin k0_t1_loop.trips) (arg14_r0 : BitVec 32) (arg15_r0 : BitVec 32) (arg16_r0 : BitVec 32) (arg17_r0 : BitVec 32) (arg18_r0 : BitVec 32) (k0_hw1 : k0_chk1 k0_t1 arg14_r0 arg15_r0 arg16_r0 arg17_r0 arg18_r0), ∀ (k0_h5 : k0_cond5 k0_t1 arg18_r0 = 1#1), ∀ a, (k0_off11 arg16_r0) a + S1.size a ≤ S2.size a := fun k0_t1 arg14_r0 arg15_r0 arg16_r0 arg17_r0 arg18_r0 k0_hw1 k0_h5 => k0_hw1.2.2.2.2.2.2.1 k0_h5
theorem k0_off12_inb : ∀ (k0_t1 : Fin k0_t1_loop.trips) (arg14_r0 : BitVec 32) (arg15_r0 : BitVec 32) (arg16_r0 : BitVec 32) (arg17_r0 : BitVec 32) (arg18_r0 : BitVec 32) (k0_hw1 : k0_chk1 k0_t1 arg14_r0 arg15_r0 arg16_r0 arg17_r0 arg18_r0), ∀ (k0_h5 : k0_cond5 k0_t1 arg18_r0 = 1#1), ∀ a, (k0_off12 arg18_r0) a + S512x1024.size a ≤ S16384x1024.size a := fun k0_t1 arg14_r0 arg15_r0 arg16_r0 arg17_r0 arg18_r0 k0_hw1 k0_h5 => k0_hw1.2.2.2.2.2.2.2.1 k0_h5
theorem k0_off13_inb : ∀ (k0_t1 : Fin k0_t1_loop.trips) (arg14_r0 : BitVec 32) (arg15_r0 : BitVec 32) (arg16_r0 : BitVec 32) (arg17_r0 : BitVec 32) (arg18_r0 : BitVec 32) (k0_hw1 : k0_chk1 k0_t1 arg14_r0 arg15_r0 arg16_r0 arg17_r0 arg18_r0), ∀ (k0_h5 : k0_cond5 k0_t1 arg18_r0 = 1#1), ∀ a, (k0_off13 arg16_r0) a + S1x512x1024.size a ≤ S2x512x1024.size a := fun k0_t1 arg14_r0 arg15_r0 arg16_r0 arg17_r0 arg18_r0 k0_hw1 k0_h5 => k0_hw1.2.2.2.2.2.2.2.2.1 k0_h5
theorem k0_off14_inb : ∀ (k0_t1 : Fin k0_t1_loop.trips) (arg14_r0 : BitVec 32) (arg15_r0 : BitVec 32) (arg16_r0 : BitVec 32) (arg17_r0 : BitVec 32) (arg18_r0 : BitVec 32) (k0_hw1 : k0_chk1 k0_t1 arg14_r0 arg15_r0 arg16_r0 arg17_r0 arg18_r0), ∀ (k0_h7 : k0_cond7 k0_t1 arg18_r0 = 1#1), ∀ a, (k0_off14 arg17_r0) a + S1.size a ≤ S2.size a := fun k0_t1 arg14_r0 arg15_r0 arg16_r0 arg17_r0 arg18_r0 k0_hw1 k0_h7 => k0_hw1.2.2.2.2.2.2.2.2.2.1 k0_h7
theorem k0_off15_inb : ∀ (k0_t1 : Fin k0_t1_loop.trips) (arg14_r0 : BitVec 32) (arg15_r0 : BitVec 32) (arg16_r0 : BitVec 32) (arg17_r0 : BitVec 32) (arg18_r0 : BitVec 32) (k0_hw1 : k0_chk1 k0_t1 arg14_r0 arg15_r0 arg16_r0 arg17_r0 arg18_r0), ∀ (k0_h7 : k0_cond7 k0_t1 arg18_r0 = 1#1), ∀ a, (k0_off15 arg18_r0) a + S512x1024.size a ≤ S16384x1024.size a := fun k0_t1 arg14_r0 arg15_r0 arg16_r0 arg17_r0 arg18_r0 k0_hw1 k0_h7 => k0_hw1.2.2.2.2.2.2.2.2.2.2.1 k0_h7
theorem k0_off16_inb : ∀ (k0_t1 : Fin k0_t1_loop.trips) (arg14_r0 : BitVec 32) (arg15_r0 : BitVec 32) (arg16_r0 : BitVec 32) (arg17_r0 : BitVec 32) (arg18_r0 : BitVec 32) (k0_hw1 : k0_chk1 k0_t1 arg14_r0 arg15_r0 arg16_r0 arg17_r0 arg18_r0), ∀ (k0_h7 : k0_cond7 k0_t1 arg18_r0 = 1#1), ∀ a, (k0_off16 arg17_r0) a + S1x512x1024.size a ≤ S2x512x1024.size a := fun k0_t1 arg14_r0 arg15_r0 arg16_r0 arg17_r0 arg18_r0 k0_hw1 k0_h7 => k0_hw1.2.2.2.2.2.2.2.2.2.2.2 k0_h7

def k0_off17 (v31_3_r0 : BitVec 32) : Fin 1 → Nat :=
  let c2_i32_50_r0 : BitVec 32 := 2#32
  let v52_r0 : BitVec 32 := Scalar.remui v31_3_r0 c2_i32_50_r0
  ![v52_r0.toNat]

def k0_off18 (v31_4_r0 : BitVec 32) : Fin 2 → Nat :=
  let c512_i32_r0 : BitVec 32 := 512#32
  let true_31_r0 : BitVec 1 := 1#1
  let c1_i32_30_r0 : BitVec 32 := 1#32
  let v32_r0 : BitVec 32 := Scalar.subi v31_4_r0 c1_i32_30_r0
  let v33_r0 : BitVec 32 := Scalar.select true_31_r0 v32_r0 v31_4_r0
  let c_m1_i32_32_r0 : BitVec 32 := 4294967295#32
  let v34_r0 : BitVec 1 := Scalar.cmpi .eq v33_r0 c_m1_i32_32_r0
  let c31_i32_33_r0 : BitVec 32 := 31#32
  let v35_r0 : BitVec 32 := Scalar.select v34_r0 c31_i32_33_r0 v33_r0
  let c0_i32_34_r0 : BitVec 32 := 0#32
  let v36_r0 : BitVec 32 := Scalar.addi v35_r0 c0_i32_34_r0
  let v53_r0 : BitVec 32 := Scalar.muli c512_i32_r0 v36_r0
  let c0_i32_51_r0 : BitVec 32 := 0#32
  ![v53_r0.toNat, 0]

def k0_chk5 (v31_4_r0 : BitVec 32) : Prop :=
  (∀ a, (k0_off18 v31_4_r0) a + S512x1024.size a ≤ S16384x1024.size a)
theorem k0_off18_inb : ∀ (v31_4_r0 : BitVec 32) (k0_hw5 : k0_chk5 v31_4_r0), ∀ a, (k0_off18 v31_4_r0) a + S512x1024.size a ≤ S16384x1024.size a := fun v31_4_r0 k0_hw5 => k0_hw5

def k0_off19 (v31_3_r0 : BitVec 32) : Fin 3 → Nat :=
  let c2_i32_50_r0 : BitVec 32 := 2#32
  let v52_r0 : BitVec 32 := Scalar.remui v31_3_r0 c2_i32_50_r0
  let c0_i32_52_r0 : BitVec 32 := 0#32
  let c0_i32_53_r0 : BitVec 32 := 0#32
  ![v52_r0.toNat, 0, 0]

def k0_chk4 (v31_3_r0 : BitVec 32) : Prop :=
  (∀ a, (k0_off17 v31_3_r0) a + S1.size a ≤ S2.size a) ∧
  (∀ a, (k0_off19 v31_3_r0) a + S1x512x1024.size a ≤ S2x512x1024.size a)
theorem k0_off17_inb : ∀ (v31_3_r0 : BitVec 32) (k0_hw4 : k0_chk4 v31_3_r0), ∀ a, (k0_off17 v31_3_r0) a + S1.size a ≤ S2.size a := fun v31_3_r0 k0_hw4 => k0_hw4.1
theorem k0_off19_inb : ∀ (v31_3_r0 : BitVec 32) (k0_hw4 : k0_chk4 v31_3_r0), ∀ a, (k0_off19 v31_3_r0) a + S1x512x1024.size a ≤ S2x512x1024.size a := fun v31_3_r0 k0_hw4 => k0_hw4.2

abbrev stage0_0 : Fin 1 → Memref sig .tc .vmem S1x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S1x16384x1024 : Shape := ⟨3, ![1, 16384, 1024]⟩
abbrev S1x3072 : Shape := ⟨2, ![1, 3072]⟩
abbrev S1x2048 : Shape := ⟨2, ![1, 2048]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S1x3x1024 : Shape := ⟨3, ![1, 3, 1024]⟩
abbrev S1x1x1024 : Shape := ⟨3, ![1, 1, 1024]⟩
abbrev S_ : Shape := ⟨0, ![]⟩
abbrev S1x16384 : Shape := ⟨2, ![1, 16384]⟩
abbrev S1x16384x1 : Shape := ⟨3, ![1, 16384, 1]⟩
abbrev S1024x5632 : Shape := ⟨2, ![1024, 5632]⟩
abbrev S1x16384x5632 : Shape := ⟨3, ![1, 16384, 5632]⟩
abbrev S1x16384x2816 : Shape := ⟨3, ![1, 16384, 2816]⟩
abbrev S3x2816 : Shape := ⟨2, ![3, 2816]⟩
abbrev S1x16386x2816 : Shape := ⟨3, ![1, 16386, 2816]⟩
abbrev S2816 : Shape := ⟨1, ![2816]⟩
abbrev S1x1x2816 : Shape := ⟨3, ![1, 1, 2816]⟩
abbrev S2816x1024 : Shape := ⟨2, ![2816, 1024]⟩
abbrev S1x2x1024 : Shape := ⟨3, ![1, 2, 1024]⟩
abbrev S16384x1024 : Shape := ⟨2, ![16384, 1024]⟩

abbrev nBuf : Space → Nat
  | .hbm => 121
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x3072, .f32⟩
  | .hbm, ⟨2, _⟩ => ⟨S1x2048, .f32⟩
  | .hbm, ⟨3, _⟩ => ⟨S1x1024, .f32⟩
  | .hbm, ⟨4, _⟩ => ⟨S1x1024x5632, .f32⟩
  | .hbm, ⟨5, _⟩ => ⟨S1x3x2816, .f32⟩
  | .hbm, ⟨6, _⟩ => ⟨S1x2816, .f32⟩
  | .hbm, ⟨7, _⟩ => ⟨S1x2816x1024, .f32⟩
  | .hbm, ⟨8, _⟩ => ⟨S1024, .f32⟩
  | .hbm, ⟨9, _⟩ => ⟨S1x3x1024, .f32⟩
  | .hbm, ⟨10, _⟩ => ⟨S1x1x1024, .f32⟩
  | .hbm, ⟨11, _⟩ => ⟨S1x1024, .f32⟩
  | .hbm, ⟨12, _⟩ => ⟨S1x1x1024, .f32⟩
  | .hbm, ⟨13, _⟩ => ⟨S1x1024, .f32⟩
  | .hbm, ⟨14, _⟩ => ⟨S1x1x1024, .f32⟩
  | .hbm, ⟨15, _⟩ => ⟨S1x1024, .f32⟩
  | .hbm, ⟨16, _⟩ => ⟨S1024, .f32⟩
  | .hbm, ⟨17, _⟩ => ⟨S1x16384x1024, .f32⟩
  | .hbm, ⟨18, _⟩ => ⟨S_, .f32⟩
  | .hbm, ⟨19, _⟩ => ⟨S1x16384, .f32⟩
  | .hbm, ⟨20, _⟩ => ⟨S1x16384x1, .f32⟩
  | .hbm, ⟨21, _⟩ => ⟨S_, .f32⟩
  | .hbm, ⟨22, _⟩ => ⟨S1x16384x1, .f32⟩
  | .hbm, ⟨23, _⟩ => ⟨S1x16384x1, .f32⟩
  | .hbm, ⟨24, _⟩ => ⟨S_, .f32⟩
  | .hbm, ⟨25, _⟩ => ⟨S1x16384x1, .f32⟩
  | .hbm, ⟨26, _⟩ => ⟨S1x16384x1, .f32⟩
  | .hbm, ⟨27, _⟩ => ⟨S1x16384x1, .f32⟩
  | .hbm, ⟨28, _⟩ => ⟨S1x16384x1024, .f32⟩
  | .hbm, ⟨29, _⟩ => ⟨S1x16384x1024, .f32⟩
  | .hbm, ⟨30, _⟩ => ⟨S1x1x1024, .f32⟩
  | .hbm, ⟨31, _⟩ => ⟨S1x16384x1024, .f32⟩
  | .hbm, ⟨32, _⟩ => ⟨S1x16384x1024, .f32⟩
  | .hbm, ⟨33, _⟩ => ⟨S1x1x1024, .f32⟩
  | .hbm, ⟨34, _⟩ => ⟨S_, .f32⟩
  | .hbm, ⟨35, _⟩ => ⟨S1x1x1024, .f32⟩
  | .hbm, ⟨36, _⟩ => ⟨S1x1x1024, .f32⟩
  | .hbm, ⟨37, _⟩ => ⟨S1x16384x1024, .f32⟩
  | .hbm, ⟨38, _⟩ => ⟨S1x16384x1024, .f32⟩
  | .hbm, ⟨39, _⟩ => ⟨S1x1x1024, .f32⟩
  | .hbm, ⟨40, _⟩ => ⟨S1x16384x1024, .f32⟩
  | .hbm, ⟨41, _⟩ => ⟨S1x16384x1024, .f32⟩
  | .hbm, ⟨42, _⟩ => ⟨S1024x5632, .f32⟩
  | .hbm, ⟨43, _⟩ => ⟨S1x16384x5632, .f32⟩
  | .hbm, ⟨44, _⟩ => ⟨S1x16384x2816, .f32⟩
  | .hbm, ⟨45, _⟩ => ⟨S1x16384x2816, .f32⟩
  | .hbm, ⟨46, _⟩ => ⟨S3x2816, .f32⟩
  | .hbm, ⟨47, _⟩ => ⟨S_, .i32⟩
  | .hbm, ⟨48, _⟩ => ⟨S_, .f32⟩
  | .hbm, ⟨49, _⟩ => ⟨S1x16386x2816, .f32⟩
  | .hbm, ⟨50, _⟩ => ⟨S1x16384x2816, .f32⟩
  | .hbm, ⟨51, _⟩ => ⟨S1x2816, .f32⟩
  | .hbm, ⟨52, _⟩ => ⟨S2816, .f32⟩
  | .hbm, ⟨53, _⟩ => ⟨S1x1x2816, .f32⟩
  | .hbm, ⟨54, _⟩ => ⟨S1x16384x2816, .f32⟩
  | .hbm, ⟨55, _⟩ => ⟨S1x16384x2816, .f32⟩
  | .hbm, ⟨56, _⟩ => ⟨S1x16384x2816, .f32⟩
  | .hbm, ⟨57, _⟩ => ⟨S1x2816, .f32⟩
  | .hbm, ⟨58, _⟩ => ⟨S2816, .f32⟩
  | .hbm, ⟨59, _⟩ => ⟨S1x1x2816, .f32⟩
  | .hbm, ⟨60, _⟩ => ⟨S1x16384x2816, .f32⟩
  | .hbm, ⟨61, _⟩ => ⟨S1x16384x2816, .f32⟩
  | .hbm, ⟨62, _⟩ => ⟨S1x16384x2816, .f32⟩
  | .hbm, ⟨63, _⟩ => ⟨S1x16384x2816, .f32⟩
  | .hbm, ⟨64, _⟩ => ⟨S1x2816, .f32⟩
  | .hbm, ⟨65, _⟩ => ⟨S2816, .f32⟩
  | .hbm, ⟨66, _⟩ => ⟨S1x1x2816, .f32⟩
  | .hbm, ⟨67, _⟩ => ⟨S1x16384x2816, .f32⟩
  | .hbm, ⟨68, _⟩ => ⟨S1x16384x2816, .f32⟩
  | .hbm, ⟨69, _⟩ => ⟨S1x16384x2816, .f32⟩
  | .hbm, ⟨70, _⟩ => ⟨S2816, .f32⟩
  | .hbm, ⟨71, _⟩ => ⟨S1x1x2816, .f32⟩
  | .hbm, ⟨72, _⟩ => ⟨S1x16384x2816, .f32⟩
  | .hbm, ⟨73, _⟩ => ⟨S1x16384x2816, .f32⟩
  | .hbm, ⟨74, _⟩ => ⟨S1x16384x2816, .f32⟩
  | .hbm, ⟨75, _⟩ => ⟨S1x16384x2816, .f32⟩
  | .hbm, ⟨76, _⟩ => ⟨S_, .f32⟩
  | .hbm, ⟨77, _⟩ => ⟨S1x16384x2816, .f32⟩
  | .hbm, ⟨78, _⟩ => ⟨S1x16384x2816, .f32⟩
  | .hbm, ⟨79, _⟩ => ⟨S_, .f32⟩
  | .hbm, ⟨80, _⟩ => ⟨S1x16384x2816, .f32⟩
  | .hbm, ⟨81, _⟩ => ⟨S1x16384x2816, .f32⟩
  | .hbm, ⟨82, _⟩ => ⟨S1x16384x2816, .f32⟩
  | .hbm, ⟨83, _⟩ => ⟨S1x16384x2816, .f32⟩
  | .hbm, ⟨84, _⟩ => ⟨S2816x1024, .f32⟩
  | .hbm, ⟨85, _⟩ => ⟨S1x16384x1024, .f32⟩
  | .hbm, ⟨86, _⟩ => ⟨S1x1x1024, .f32⟩
  | .hbm, ⟨87, _⟩ => ⟨S1x16384x1024, .f32⟩
  | .hbm, ⟨88, _⟩ => ⟨S1x16384x1024, .f32⟩
  | .hbm, ⟨89, _⟩ => ⟨S1x16384x1024, .f32⟩
  | .hbm, ⟨90, _⟩ => ⟨S1x2x1024, .f32⟩
  | .hbm, ⟨91, _⟩ => ⟨S1x16384x1024, .f32⟩
  | .hbm, ⟨92, _⟩ => ⟨S_, .f32⟩
  | .hbm, ⟨93, _⟩ => ⟨S1x16384, .f32⟩
  | .hbm, ⟨94, _⟩ => ⟨S1x16384x1, .f32⟩
  | .hbm, ⟨95, _⟩ => ⟨S_, .f32⟩
  | .hbm, ⟨96, _⟩ => ⟨S1x16384x1, .f32⟩
  | .hbm, ⟨97, _⟩ => ⟨S1x16384x1, .f32⟩
  | .hbm, ⟨98, _⟩ => ⟨S_, .f32⟩
  | .hbm, ⟨99, _⟩ => ⟨S1x16384x1, .f32⟩
  | .hbm, ⟨100, _⟩ => ⟨S1x16384x1, .f32⟩
  | .hbm, ⟨101, _⟩ => ⟨S1x16384x1, .f32⟩
  | .hbm, ⟨102, _⟩ => ⟨S1x16384x1024, .f32⟩
  | .hbm, ⟨103, _⟩ => ⟨S1x16384x1024, .f32⟩
  | .hbm, ⟨104, _⟩ => ⟨S1x1x1024, .f32⟩
  | .hbm, ⟨105, _⟩ => ⟨S1x16384x1024, .f32⟩
  | .hbm, ⟨106, _⟩ => ⟨S1x16384x1024, .f32⟩
  | .hbm, ⟨107, _⟩ => ⟨S1x1x1024, .f32⟩
  | .hbm, ⟨108, _⟩ => ⟨S1x1024, .f32⟩
  | .hbm, ⟨109, _⟩ => ⟨S1x1x1024, .f32⟩
  | .hbm, ⟨110, _⟩ => ⟨S1x1024, .f32⟩
  | .hbm, ⟨111, _⟩ => ⟨S1x1x1024, .f32⟩
  | .hbm, ⟨112, _⟩ => ⟨S_, .f32⟩
  | .hbm, ⟨113, _⟩ => ⟨S1x1x1024, .f32⟩
  | .hbm, ⟨114, _⟩ => ⟨S1x1x1024, .f32⟩
  | .hbm, ⟨115, _⟩ => ⟨S1x16384x1024, .f32⟩
  | .hbm, ⟨116, _⟩ => ⟨S1x16384x1024, .f32⟩
  | .hbm, ⟨117, _⟩ => ⟨S1x1x1024, .f32⟩
  | .hbm, ⟨118, _⟩ => ⟨S1x16384x1024, .f32⟩
  | .hbm, ⟨119, _⟩ => ⟨S1x16384x1024, .f32⟩
  | .hbm, ⟨120, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c : Ref sig .tc := ⟨.hbm, 47, rfl⟩
abbrev main_call0_v0 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_call1_v0 : Ref sig .tc := ⟨.hbm, 74, rfl⟩
abbrev main_call1_v1 : Ref sig .tc := ⟨.hbm, 75, rfl⟩
abbrev main_call1_cst : Ref sig .tc := ⟨.hbm, 76, rfl⟩
abbrev main_call1_v2 : Ref sig .tc := ⟨.hbm, 77, rfl⟩
abbrev main_call1_v3 : Ref sig .tc := ⟨.hbm, 78, rfl⟩
abbrev main_call1_cst_0 : Ref sig .tc := ⟨.hbm, 79, rfl⟩
abbrev main_call1_v4 : Ref sig .tc := ⟨.hbm, 80, rfl⟩
abbrev main_call1_v5 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_3 : Ref sig .tc := ⟨.hbm, 92, rfl⟩
abbrev main_v69 : Ref sig .tc := ⟨.hbm, 93, rfl⟩
abbrev main_v70 : Ref sig .tc := ⟨.hbm, 94, rfl⟩
abbrev main_cst_4 : Ref sig .tc := ⟨.hbm, 95, rfl⟩
abbrev main_v71 : Ref sig .tc := ⟨.hbm, 96, rfl⟩
abbrev main_v72 : Ref sig .tc := ⟨.hbm, 97, rfl⟩
abbrev main_cst_5 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_6 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩

abbrev nD : Nat := 1
abbrev τ : Topo := Topo.v7x

variable {F : FTy → Type} [FloatOps F]
-- ==== Kernel2.lean ====
abbrev S1x1024 : Shape := ⟨2, ![1, 1024]⟩
abbrev S1x1024x6144 : Shape := ⟨3, ![1, 1024, 6144]⟩
abbrev S1x6144 : Shape := ⟨2, ![1, 6144]⟩
abbrev S1024x6144 : Shape := ⟨2, ![1024, 6144]⟩
abbrev S1x3072 : Shape := ⟨2, ![1, 3072]⟩
abbrev S1024x1 : Shape := ⟨2, ![1024, 1]⟩
abbrev S1x512 : Shape := ⟨2, ![1, 512]⟩
abbrev S512x3072 : Shape := ⟨2, ![512, 3072]⟩
abbrev S512x1 : Shape := ⟨2, ![512, 1]⟩
abbrev S1x128 : Shape := ⟨2, ![1, 128]⟩
abbrev S128x128 : Shape := ⟨2, ![128, 128]⟩
abbrev S128x1 : Shape := ⟨2, ![128, 1]⟩
abbrev S3072 : Shape := ⟨1, ![3072]⟩

abbrev nBuf : Space → Nat
  | .hbm => 6
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S1x1024x6144, .f32⟩
  | .hbm, ⟨2, _⟩ => ⟨S1x6144, .f32⟩
  | .hbm, ⟨3, _⟩ => ⟨S1024x6144, .f32⟩
  | .hbm, ⟨4, _⟩ => ⟨S1x3072, .f32⟩
  | .hbm, ⟨5, _⟩ => ⟨S1024x1, .f32⟩
  | .local _ .vmem, ⟨0, _⟩ => ⟨S1x512, .f32⟩
  | .local _ .vmem, ⟨1, _⟩ => ⟨S1x512, .f32⟩
  | .local _ .vmem, ⟨2, _⟩ => ⟨S512x3072, .f32⟩
  | .local _ .vmem, ⟨3, _⟩ => ⟨S512x3072, .f32⟩
  | .local _ .vmem, ⟨4, _⟩ => ⟨S1x3072, .f32⟩
  | .local _ .vmem, ⟨5, _⟩ => ⟨S1x3072, .f32⟩
  | .local _ .vmem, ⟨6, _⟩ => ⟨S512x1, .f32⟩
  | .local _ .vmem, ⟨7, _⟩ => ⟨S512x1, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S1x1024 : Shape := ⟨2, ![1, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S6144 : Shape := ⟨1, ![6144]⟩
abbrev S1x3072 : Shape := ⟨2, ![1, 3072]⟩
abbrev S1024x1 : Shape := ⟨2, ![1024, 1]⟩

abbrev nBuf : Space → Nat
  | .hbm => 19
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024x6144, .f32⟩
  | .hbm, ⟨2, _⟩ => ⟨S1x6144, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024x6144, .f32⟩
  | .hbm, ⟨13, _⟩ => ⟨S1x6144, .f32⟩
  | .hbm, ⟨14, _⟩ => ⟨S6144, .f32⟩
  | .hbm, ⟨15, _⟩ => ⟨S1x6144, .f32⟩
  | .hbm, ⟨16, _⟩ => ⟨S1x6144, .f32⟩
  | .hbm, ⟨17, _⟩ => ⟨S1x3072, .f32⟩
  | .hbm, ⟨18, _⟩ => ⟨S1024x1, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Proof.Names.lean ====
/-
  The feed-forward kernel's memory in closed form.  The kernel streams 32 tiles of 512 rows through an explicit
  software pipeline: tile `b` of the input travels to slot `b % 2` of a two-slot input buffer, tile `b` of the result
  leaves from slot `b % 2` of a two-slot output buffer, and five counters carried by the loop say which slot and which
  tile each step is at.  This module names the tiles, slots and semaphores by their numbers, gives the five counters
  before trip `k`, and shows that every offset the kernel computes from them is the offset of the named piece.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Ring.Trips
public import Idealize.ShloMosaic.Lib.Affine
public import Idealize.ShloMosaic.Lib.Tactic

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI

/-! ## Pieces by number -/

abbrev xM : Memref sig .tc .hbm S16384x1024 .f32 := Memref.whole main_v0
abbrev oM : Memref sig .tc .hbm S16384x1024 .f32 := Memref.whole main_v6
abbrev rM : Memref sig .tc .vmem S2x512x1024 .f32 := Memref.whole cc0_scoped0
abbrev wM : Memref sig .tc .vmem S2x512x1024 .f32 := Memref.whole cc0_scoped2

abbrev blkOff (b : Fin 32) : Fin 2 → Nat := ![512 * b.val, 0]
theorem blkOff_inb (b : Fin 32) : ∀ a, blkOff b a + S512x1024.size a ≤ S16384x1024.size a := by
  have := b.isLt; intro a; fin_cases a
  · show 512 * b.val + 512 ≤ 16384; omega
  · show 0 + 1024 ≤ 1024; omega
abbrev slotOff (s : Fin 2) : Fin 3 → Nat := ![s.val, 0, 0]
theorem slotOff_inb (s : Fin 2) : ∀ a, slotOff s a + S1x512x1024.size a ≤ S2x512x1024.size a := by
  have := s.isLt; intro a; fin_cases a
  · show s.val + 1 ≤ 2; omega
  · show 0 + 512 ≤ 512; omega
  · show 0 + 1024 ≤ 1024; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Tile `b` of the input: its rows `512 b … 512 b + 511`. -/
def xblk (b : Fin 32) : Memref sig .tc .hbm S512x1024 .f32 :=
  xM.slice (Rect.unit (s := S16384x1024) (blkOff b) S512x1024.size (blkOff_inb b)) (fun _ => rfl)
/-- Tile `b` of the result. -/
def oblk (b : Fin 32) : Memref sig .tc .hbm S512x1024 .f32 :=
  oM.slice (Rect.unit (s := S16384x1024) (blkOff b) S512x1024.size (blkOff_inb b)) (fun _ => rfl)
/-- Slot `s` of the input buffer. -/
def rslot (s : Fin 2) : Memref sig .tc .vmem S512x1024 .f32 :=
  (rM.slice (Rect.unit (s := S2x512x1024) (slotOff s) S1x512x1024.size (slotOff_inb s)) (fun _ => rfl)).squeeze S512x1024 squeezes_S1x512x1024_S512x1024
/-- Slot `s` of the output buffer. -/
def wslot (s : Fin 2) : Memref sig .tc .vmem S512x1024 .f32 :=
  (wM.slice (Rect.unit (s := S2x512x1024) (slotOff s) S1x512x1024.size (slotOff_inb s)) (fun _ => rfl)).squeeze S512x1024 squeezes_S1x512x1024_S512x1024
/-- The semaphores of the input slots and of the output slots. -/
def rsem (s : Fin 2) : DmaSems sig S_ := (cc0_scoped1.slice (Rect.unit (s := S2) (semOff s) S1.size (semOff_inb s))).squeeze S_ squeezes_S1_S_
def wsem (s : Fin 2) : DmaSems sig S_ := (cc0_scoped3.slice (Rect.unit (s := S2) (semOff s) S1.size (semOff_inb s))).squeeze S_ squeezes_S1_S_

instance (s : Fin 2) : ClosedOff (slotOff s) := ⟨slotOff s, rfl⟩
instance (b : Fin 32) : ClosedOff (blkOff b) := ⟨blkOff b, rfl⟩

/-! ## The carried counters -/

/-- A small number as a counter word. -/
def wd (n : ℕ) : BitVec 32 := BitVec.ofNat 32 n

/-- Before trip `k`: tiles fetched, tiles consumed, tiles produced, tiles drained, the tile number (back to 0 at the end). -/
def accAt (k : ℕ) : BitVec 32 × BitVec 32 × BitVec 32 × BitVec 32 × BitVec 32 :=
  (wd (min (k + 1) 32), wd k, wd k, wd (k - 1), wd (k % 32))

theorem trips_eq : k0_t1_loop.trips = 32 := by decide

theorem rem_wd : ∀ n : Fin 33, (Scalar.remui (wd n.val) 2#32).toNat = (Ring.sl 2 n.val).val := by decide
theorem rem_wd' (n : ℕ) (h : n < 33) : (Scalar.remui (wd n) 2#32).toNat = (Ring.sl 2 n).val := rem_wd ⟨n, h⟩

theorem off3_eq (n : ℕ) (h : n < 33) : k0_off3 (wd n) = semOff (Ring.sl 2 n) := by
  show (![_] : Fin 1 → Nat) = _; rw [rem_wd' n h]
theorem off6_eq (n : ℕ) (h : n < 33) : k0_off6 (wd n) = semOff (Ring.sl 2 n) := by
  show (![_] : Fin 1 → Nat) = _; rw [rem_wd' n h]
theorem off11_eq (n : ℕ) (h : n < 33) : k0_off11 (wd n) = semOff (Ring.sl 2 n) := by
  show (![_] : Fin 1 → Nat) = _; rw [rem_wd' n h]
theorem off14_eq (n : ℕ) (h : n < 33) : k0_off14 (wd n) = semOff (Ring.sl 2 n) := by
  show (![_] : Fin 1 → Nat) = _; rw [rem_wd' n h]
theorem off17_eq (n : ℕ) (h : n < 33) : k0_off17 (wd n) = semOff (Ring.sl 2 n) := by
  show (![_] : Fin 1 → Nat) = _; rw [rem_wd' n h]
theorem off4_eq (n : ℕ) (h : n < 33) : k0_off4 (wd n) = slotOff (Ring.sl 2 n) := by
  show (![_, 0, 0] : Fin 3 → Nat) = _; rw [rem_wd' n h]
theorem off7_eq (n : ℕ) (h : n < 33) : k0_off7 (wd n) = slotOff (Ring.sl 2 n) := by
  show (![_, 0, 0] : Fin 3 → Nat) = _; rw [rem_wd' n h]
theorem off9_eq (n : ℕ) (h : n < 33) : k0_off9 (wd n) = slotOff (Ring.sl 2 n) := by
  show (![(Scalar.remui (wd n) 2#32).toNat, 0, 0] : Fin 3 → Nat) = _; rw [rem_wd' n h]
theorem off10_eq (n : ℕ) (h : n < 33) : k0_off10 (wd n) = slotOff (Ring.sl 2 n) := by
  show (![_, 0, 0] : Fin 3 → Nat) = _; rw [rem_wd' n h]
theorem off13_eq (n : ℕ) (h : n < 33) : k0_off13 (wd n) = slotOff (Ring.sl 2 n) := by
  show (![_, 0, 0] : Fin 3 → Nat) = _; rw [rem_wd' n h]
theorem off16_eq (n : ℕ) (h : n < 33) : k0_off16 (wd n) = slotOff (Ring.sl 2 n) := by
  show (![_, 0, 0] : Fin 3 → Nat) = _; rw [rem_wd' n h]
theorem off19_eq (n : ℕ) (h : n < 33) : k0_off19 (wd n) = slotOff (Ring.sl 2 n) := by
  show (![_, 0, 0] : Fin 3 → Nat) = _; rw [rem_wd' n h]

theorem blk_lits : ∀ n : Fin 32, k0_off5 (wd n.val) = blkOff (Ring.bk 32 ((n.val + 1) % 32)) ∧ k0_off8 (wd n.val) = blkOff (Ring.bk 32 n.val)
    ∧ k0_off12 (wd n.val) = blkOff (Ring.bk 32 n.val) ∧ k0_off15 (wd n.val) = blkOff (Ring.bk 32 ((n.val + 31) % 32))
    ∧ k0_off18 (wd n.val) = blkOff (Ring.bk 32 ((n.val + 31) % 32)) := by decide
theorem off5_eq (n : ℕ) (h : n + 1 < 32) : k0_off5 (wd n) = blkOff (Ring.bk 32 (n + 1)) := by
  have e := (blk_lits ⟨n, by omega⟩).1; rwa [show ((⟨n, by omega⟩ : Fin 32).val + 1) % 32 = n + 1 from Nat.mod_eq_of_lt h] at e
theorem off8_eq (n : ℕ) (h : n < 32) : k0_off8 (wd n) = blkOff (Ring.bk 32 n) := (blk_lits ⟨n, h⟩).2.1
theorem off12_eq (n : ℕ) (h : n < 32) : k0_off12 (wd n) = blkOff (Ring.bk 32 n) := (blk_lits ⟨n, h⟩).2.2.1
theorem off15_eq (n : ℕ) (h0 : 0 < n) (h : n < 32) : k0_off15 (wd n) = blkOff (Ring.bk 32 (n - 1)) := by
  have e := (blk_lits ⟨n, h⟩).2.2.2.1
  rwa [show ((⟨n, h⟩ : Fin 32).val + 31) % 32 = n - 1 from by show (n + 31) % 32 = n - 1; omega] at e
theorem off18_eq : k0_off18 (wd 0) = blkOff (Ring.bk 32 31) := (blk_lits 0).2.2.2.2

instance (k : Fin k0_t1_loop.trips) : ClosedOff (k0_off9 (wd k.val)) := ⟨slotOff (Ring.sl 2 k.val), off9_eq k.val (by have := Nat.lt_of_lt_of_eq k.isLt trips_eq; omega)⟩

/-! ## The kernel's slices are the named pieces -/

theorem rsem_congr {off : Fin 1 → Nat} {s : Fin 2} (e : off = semOff s) (hh) :
    (cc0_scoped1.slice (Rect.unit (s := S2) off S1.size hh)).squeeze S_ squeezes_S1_S_ = rsem s :=
  congrArg (fun A : DmaSems sig S1 => A.squeeze S_ squeezes_S1_S_) (SemArray.slice_unit_congr _ e _ _)
theorem wsem_congr {off : Fin 1 → Nat} {s : Fin 2} (e : off = semOff s) (hh) :
    (cc0_scoped3.slice (Rect.unit (s := S2) off S1.size hh)).squeeze S_ squeezes_S1_S_ = wsem s :=
  congrArg (fun A : DmaSems sig S1 => A.squeeze S_ squeezes_S1_S_) (SemArray.slice_unit_congr _ e _ _)
theorem rslot_congr {off : Fin 3 → Nat} {s : Fin 2} (e : off = slotOff s) (hh hs) :
    (rM.slice (Rect.unit (s := S2x512x1024) off S1x512x1024.size hh) hs).squeeze S512x1024 squeezes_S1x512x1024_S512x1024 = rslot s :=
  congrArg (fun M : Memref sig .tc .vmem S1x512x1024 .f32 => M.squeeze S512x1024 squeezes_S1x512x1024_S512x1024) (Memref.slice_unit_congr _ e _ _ _ _)
theorem wslot_congr {off : Fin 3 → Nat} {s : Fin 2} (e : off = slotOff s) (hh hs) :
    (wM.slice (Rect.unit (s := S2x512x1024) off S1x512x1024.size hh) hs).squeeze S512x1024 squeezes_S1x512x1024_S512x1024 = wslot s :=
  congrArg (fun M : Memref sig .tc .vmem S1x512x1024 .f32 => M.squeeze S512x1024 squeezes_S1x512x1024_S512x1024) (Memref.slice_unit_congr _ e _ _ _ _)
theorem xblk_congr {off : Fin 2 → Nat} {b : Fin 32} (e : off = blkOff b) (hh hs) :
    xM.slice (Rect.unit (s := S16384x1024) off S512x1024.size hh) hs = xblk b := Memref.slice_unit_congr _ e _ (blkOff_inb b) _ (fun _ => rfl)
theorem oblk_congr {off : Fin 2 → Nat} {b : Fin 32} (e : off = blkOff b) (hh hs) :
    oM.slice (Rect.unit (s := S16384x1024) off S512x1024.size hh) hs = oblk b := Memref.slice_unit_congr _ e _ (blkOff_inb b) _ (fun _ => rfl)

/-- Before the loop: the first tile goes to slot 0. -/
@[sl_canon] theorem rsem_start (hh) : (cc0_scoped1.slice (Rect.unit (s := S2) k0_off1 S1.size hh)).squeeze S_ squeezes_S1_S_ = rsem 0 := rsem_congr (by decide) _
@[sl_canon] theorem rslot_start (hh hs) : (rM.slice (Rect.unit (s := S2x512x1024) k0_off2 S1x512x1024.size hh) hs).squeeze S512x1024 squeezes_S1x512x1024_S512x1024 = rslot 0 := rslot_congr (by decide) _ _
@[sl_canon] theorem xblk_start (hh hs) : xM.slice (Rect.unit (s := S16384x1024) ![0, 0] S512x1024.size hh) hs = xblk 0 := xblk_congr (by decide) _ _

/-- In a trip: the fetch of the next tile, -/
@[sl_canon] theorem rsem_fetch (n : ℕ) (h : n < 33) (hh) : (cc0_scoped1.slice (Rect.unit (s := S2) (k0_off3 (wd n)) S1.size hh)).squeeze S_ squeezes_S1_S_ = rsem (Ring.sl 2 n) := rsem_congr (off3_eq n h) _
@[sl_canon] theorem rslot_fetch (n : ℕ) (h : n < 33) (hh hs) : (rM.slice (Rect.unit (s := S2x512x1024) (k0_off4 (wd n)) S1x512x1024.size hh) hs).squeeze S512x1024 squeezes_S1x512x1024_S512x1024 = rslot (Ring.sl 2 n) := rslot_congr (off4_eq n h) _ _
@[sl_canon] theorem xblk_fetch (n : ℕ) (h : n + 1 < 32) (hh hs) : xM.slice (Rect.unit (s := S16384x1024) (k0_off5 (wd n)) S512x1024.size hh) hs = xblk (Ring.bk 32 (n + 1)) := xblk_congr (off5_eq n h) _ _
/-- the wait for this tile, -/
@[sl_canon] theorem rsem_wait (n : ℕ) (h : n < 33) (hh) : (cc0_scoped1.slice (Rect.unit (s := S2) (k0_off6 (wd n)) S1.size hh)).squeeze S_ squeezes_S1_S_ = rsem (Ring.sl 2 n) := rsem_congr (off6_eq n h) _
@[sl_canon] theorem rslot_wait (n : ℕ) (h : n < 33) (hh hs) : (rM.slice (Rect.unit (s := S2x512x1024) (k0_off7 (wd n)) S1x512x1024.size hh) hs).squeeze S512x1024 squeezes_S1x512x1024_S512x1024 = rslot (Ring.sl 2 n) := rslot_congr (off7_eq n h) _ _
@[sl_canon] theorem xblk_wait (n : ℕ) (h : n < 32) (hh hs) : xM.slice (Rect.unit (s := S16384x1024) (k0_off8 (wd n)) S512x1024.size hh) hs = xblk (Ring.bk 32 n) := xblk_congr (off8_eq n h) _ _
/-- the tile being written, -/
@[sl_canon] theorem wslot_store (n : ℕ) (h : n < 33) (hh hs) : (wM.slice (Rect.unit (s := S2x512x1024) (k0_off10 (wd n)) S1x512x1024.size hh) hs).squeeze S512x1024 squeezes_S1x512x1024_S512x1024 = wslot (Ring.sl 2 n) := wslot_congr (off10_eq n h) _ _
/-- its departure, -/
@[sl_canon] theorem wsem_send (n : ℕ) (h : n < 33) (hh) : (cc0_scoped3.slice (Rect.unit (s := S2) (k0_off11 (wd n)) S1.size hh)).squeeze S_ squeezes_S1_S_ = wsem (Ring.sl 2 n) := wsem_congr (off11_eq n h) _
@[sl_canon] theorem oblk_send (n : ℕ) (h : n < 32) (hh hs) : oM.slice (Rect.unit (s := S16384x1024) (k0_off12 (wd n)) S512x1024.size hh) hs = oblk (Ring.bk 32 n) := oblk_congr (off12_eq n h) _ _
@[sl_canon] theorem wslot_send (n : ℕ) (h : n < 33) (hh hs) : (wM.slice (Rect.unit (s := S2x512x1024) (k0_off13 (wd n)) S1x512x1024.size hh) hs).squeeze S512x1024 squeezes_S1x512x1024_S512x1024 = wslot (Ring.sl 2 n) := wslot_congr (off13_eq n h) _ _
/-- the wait for the previous tile's departure, -/
@[sl_canon] theorem wsem_drain (n : ℕ) (h : n < 33) (hh) : (cc0_scoped3.slice (Rect.unit (s := S2) (k0_off14 (wd n)) S1.size hh)).squeeze S_ squeezes_S1_S_ = wsem (Ring.sl 2 n) := wsem_congr (off14_eq n h) _
@[sl_canon] theorem oblk_drain (n : ℕ) (h0 : 0 < n) (h : n < 32) (hh hs) : oM.slice (Rect.unit (s := S16384x1024) (k0_off15 (wd n)) S512x1024.size hh) hs = oblk (Ring.bk 32 (n - 1)) := oblk_congr (off15_eq n h0 h) _ _
@[sl_canon] theorem wslot_drain (n : ℕ) (h : n < 33) (hh hs) : (wM.slice (Rect.unit (s := S2x512x1024) (k0_off16 (wd n)) S1x512x1024.size hh) hs).squeeze S512x1024 squeezes_S1x512x1024_S512x1024 = wslot (Ring.sl 2 n) := wslot_congr (off16_eq n h) _ _
/-- and, after the loop, the wait for the last. -/
@[sl_canon] theorem wsem_end (n : ℕ) (h : n < 33) (hh) : (cc0_scoped3.slice (Rect.unit (s := S2) (k0_off17 (wd n)) S1.size hh)).squeeze S_ squeezes_S1_S_ = wsem (Ring.sl 2 n) := wsem_congr (off17_eq n h) _
@[sl_canon] theorem oblk_end (hh hs) : oM.slice (Rect.unit (s := S16384x1024) (k0_off18 (wd 0)) S512x1024.size hh) hs = oblk (Ring.bk 32 31) := oblk_congr off18_eq _ _
@[sl_canon] theorem wslot_end (n : ℕ) (h : n < 33) (hh hs) : (wM.slice (Rect.unit (s := S2x512x1024) (k0_off19 (wd n)) S1x512x1024.size hh) hs).squeeze S512x1024 squeezes_S1x512x1024_S512x1024 = wslot (Ring.sl 2 n) := wslot_congr (off19_eq n h) _ _

/-! ## Conditions and checks at the counters -/

theorem chk2_at (n : ℕ) (h : n < 33) : k0_chk2 (wd n) := by
  unfold k0_chk2; rw [off9_eq n h]; exact slotOff_inb _
theorem chk3_at (n : ℕ) (h : n < 33) : k0_chk3 (wd n) := by
  unfold k0_chk3; rw [off10_eq n h]; exact slotOff_inb _

theorem conds : ∀ k : Fin 32, (k0_cond1 (k.cast trips_eq.symm) (wd k.val) = 1#1 ↔ k.val + 1 < 32) ∧ k0_cond2 (k.cast trips_eq.symm) (wd k.val) = 1#1
    ∧ k0_cond5 (k.cast trips_eq.symm) (wd k.val) = 1#1 ∧ (k0_cond7 (k.cast trips_eq.symm) (wd k.val) = 1#1 ↔ 0 < k.val) := by decide
theorem chk1_all : ∀ k : Fin 32, k0_chk1 (k.cast trips_eq.symm) (wd (min (k.val + 1) 32)) (wd k.val) (wd k.val) (wd (k.val - 1)) (wd k.val) := by decide
theorem chk4_end : k0_chk4 (wd 31) := by decide
theorem chk5_end : k0_chk5 (wd 0) := by decide

end Cert.Proof.Ffn

end
-- ==== Proof.Trip.lean ====
module

public import proofs.«01_k».proof.Proof.Names

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources: the staging library's beside the counters the kernel's own transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-- What the kernel reads: the input rows and the eight operands staged for it. -/
structure Inp (F : FTy → Type) [FloatOps F] (c : Dev nD) where
  x : Buf (Elt F) (xM.view.loc (c : Thread nD τ))
  a1 : Buf (Elt F) ((Memref.whole cc0_stg0_0).view.loc (c : Thread nD τ))
  a2 : Buf (Elt F) ((Memref.whole cc0_stg1_0).view.loc (c : Thread nD τ))
  a3 : Buf (Elt F) ((Memref.whole cc0_stg2_0).view.loc (c : Thread nD τ))
  a4 : Buf (Elt F) ((Memref.whole cc0_stg3_0).view.loc (c : Thread nD τ))
  a5 : Buf (Elt F) ((Memref.whole cc0_stg4_0).view.loc (c : Thread nD τ))
  a6 : Buf (Elt F) ((Memref.whole cc0_stg5_0).view.loc (c : Thread nD τ))
  a7 : Buf (Elt F) ((Memref.whole cc0_stg6_0).view.loc (c : Thread nD τ))
  a8 : Buf (Elt F) ((Memref.whole cc0_stg7_0).view.loc (c : Thread nD τ))

section Pieces
variable (c : Dev nD) (I : Inp F c)

abbrev held {sp : Space} {S : Shape} {e : EltTy} (M : Memref sig .tc sp S e) (f : Buf (Elt F) (M.view.loc (c : Thread nD τ))) : sProp 𝕄 :=
  M.view.loc (c : Thread nD τ) ↦[M.view.set]{fullShare} f
abbrev rcell (s : Fin 2) : sProp 𝕄 := semVal ((c : Thread nD τ), SemLoc.dma (rsem s).sem) 0
abbrev wcell (s : Fin 2) : sProp 𝕄 := semVal ((c : Thread nD τ), SemLoc.dma (wsem s).sem) 0
abbrev landed (s : Fin 2) (b : Fin 32) (f : Buf (Elt F) ((rslot s).view.loc (c : Thread nD τ))) : Buf (Elt F) ((rslot s).view.loc (c : Thread nD τ)) :=
  (rslot s).view.writes (Elt F) f [⟨Rect.whole S512x1024, ReadAs.same.apply ((xblk b).view.read (Elt F) I.x)⟩]
abbrev fetching (s : Fin 2) (b : Fin 32) (f : Buf (Elt F) ((rslot s).view.loc (c : Thread nD τ))) : sProp 𝕄 :=
  Transfers.Flight countersEmb (c : Thread nD τ) (SemLoc.dma (rsem s).sem) () 65536 iprop(held c (rslot s) (landed c I s b f) ∗ held c (xblk b) I.x)
abbrev sending (s : Fin 2) (b : Fin 32) (fo : Buf (Elt F) ((oblk b).view.loc (c : Thread nD τ))) (f : Buf (Elt F) ((wslot s).view.loc (c : Thread nD τ))) : sProp 𝕄 :=
  Transfers.Flight countersEmb (c : Thread nD τ) (SemLoc.dma (wsem s).sem) () 65536 iprop(held c (oblk b) fo ∗ held c (wslot s) f)
abbrev inputs : sProp 𝕄 :=
  iprop(held c (Memref.whole cc0_stg0_0) I.a1 ∗ held c (Memref.whole cc0_stg1_0) I.a2 ∗ held c (Memref.whole cc0_stg2_0) I.a3 ∗ held c (Memref.whole cc0_stg3_0) I.a4
    ∗ held c (Memref.whole cc0_stg4_0) I.a5 ∗ held c (Memref.whole cc0_stg5_0) I.a6 ∗ held c (Memref.whole cc0_stg6_0) I.a7 ∗ held c (Memref.whole cc0_stg7_0) I.a8)

abbrev tripG (k : Fin k0_t1_loop.trips) (acc : BitVec 32 × BitVec 32 × BitVec 32 × BitVec 32 × BitVec 32) :
    Prog (TpuEff nD τ sig (Elt F) Λ₀ .tc) (BitVec 32 × BitVec 32 × BitVec 32 × BitVec 32 × BitVec 32) :=
  k0_t1_body (F := F) xM (Memref.isWhole_whole _) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_stg6_0) (Memref.isWhole_whole _) (Memref.whole cc0_stg7_0) (Memref.isWhole_whole _)
    oM (Memref.isWhole_whole _) (Memref.whole cc0_scratch0) (Memref.isWhole_whole _) (Memref.whole cc0_scratch1) (Memref.isWhole_whole _)
    (Memref.whole cc0_scratch2) (Memref.isWhole_whole _) rM (Memref.isWhole_whole _) cc0_scoped1 wM (Memref.isWhole_whole _) cc0_scoped3 0#32 k acc

abbrev xhome (b : Fin 32) : sProp 𝕄 := held c (xblk b) I.x
end Pieces

section Trip
variable (c : Dev nD) (I : Inp F c)

abbrev sM1 : Memref sig .tc .vmem S528x2816 .f32 := Memref.whole cc0_scratch0
abbrev sM2 : Memref sig .tc .vmem S528x2816 .f32 := Memref.whole cc0_scratch1
abbrev sM3 : Memref sig .tc .vmem S512x2816 .bf16 := Memref.whole cc0_scratch2

set_option maxHeartbeats 800000 in
set_option backward.proofsInPublic true in
/-- A trip that is neither the first nor the last: fetch the next tile, wait for this one, compute, send the result tile
    away and wait for the previous one to have left. -/
def tripMid (k : Fin k0_t1_loop.trips) (h0 : 0 < k.val) (h1 : k.val + 1 < 32) (hq2 : k0_chk2 (wd k.val)) (fo fw)
    (d1 : Buf (Elt F) (sM1.view.loc (c : Thread nD τ))) (d2 : Buf (Elt F) (sM2.view.loc (c : Thread nD τ))) (d3 : Buf (Elt F) (sM3.view.loc (c : Thread nD τ))) (xo) :
    Σ' (p1 : List (View.Piece (Elt F) S528x2816 .f32)) (p2 : List (View.Piece (Elt F) S528x2816 .f32)) (w : Buf (Elt F) ((wslot (Ring.sl 2 k.val)).view.loc (c : Thread nD τ)) → S512x1024.Idx → Elt F .f32),
    { g : Buf (Elt F) ((wslot (Ring.sl 2 k.val)).view.loc (c : Thread nD τ)) → Buf (Elt F) ((wslot (Ring.sl 2 k.val)).view.loc (c : Thread nD τ)) //
    iprop(inputs c I ∗ held c sM1 d1 ∗ held c sM2 d2 ∗ held c sM3 d3
      ∗ (∃ W, owes (c : Thread nD τ) 0 W)
      ∗ (∃ f, fetching c I (Ring.sl 2 k.val) (Ring.bk 32 k.val) f) ∗ (∃ f, held c (rslot (Ring.sl 2 (k.val + 1))) f) ∗ rcell c (Ring.sl 2 (k.val + 1))
      ∗ xhome c I (Ring.bk 32 (k.val + 1))
      ∗ sending c (Ring.sl 2 (k.val - 1)) (Ring.bk 32 (k.val - 1)) fo fw
      ∗ (∃ f, held c (wslot (Ring.sl 2 k.val)) f) ∗ wcell c (Ring.sl 2 k.val) ∗ held c (oblk (Ring.bk 32 k.val)) xo)
      ⊢ wp frame (wpE (defs₀ (F := F)) 𝒱₀ (c : Thread nD τ) none) Set.univ (tripG k (wd (k.val + 1), wd k.val, wd k.val, wd (k.val - 1), wd k.val))
        (fun acc => iprop(⌜acc = accAt (k.val + 1)⌝ ∗ inputs c I ∗ held c sM1 (sM1.view.writes (Elt F) d1 p1) ∗ held c sM2 (sM2.view.writes (Elt F) d2 p2)
          ∗ (∃ f, held c sM3 f)
          ∗ (∃ W, owes (c : Thread nD τ) 0 W)
          ∗ (∃ f, fetching c I (Ring.sl 2 (k.val + 1)) (Ring.bk 32 (k.val + 1)) f) ∗ (∃ f, held c (rslot (Ring.sl 2 k.val)) f) ∗ rcell c (Ring.sl 2 k.val)
          ∗ xhome c I (Ring.bk 32 k.val)
          ∗ (∃ f, sending c (Ring.sl 2 k.val) (Ring.bk 32 k.val) ((oblk (Ring.bk 32 k.val)).view.writes (Elt F) xo [⟨Rect.whole S512x1024, w f⟩]) (g f))
          ∗ held c (wslot (Ring.sl 2 (k.val - 1))) fw ∗ wcell c (Ring.sl 2 (k.val - 1)) ∗ held c (oblk (Ring.bk 32 (k.val - 1))) fo)) } := by
  refine ⟨?_, ?_, ?_, ?_, ?run⟩
  case run =>
    have hk : k.val < 32 := Nat.lt_of_lt_of_eq k.isLt trips_eq
    have hk33 : k.val < 33 := by omega
    have hs33 : k.val + 1 < 33 := by omega
    have hp33 : k.val - 1 < 33 := by omega
    have hc := conds ⟨k.val, hk⟩
    have hc2 : k0_cond2 k (wd k.val) = 1#1 := hc.2.1
    have hc5 : k0_cond5 k (wd k.val) = 1#1 := hc.2.2.1
    have hc1 : k0_cond1 k (wd k.val) = 1#1 := hc.1.mpr h1
    have hc7 : k0_cond7 k (wd k.val) = 1#1 := hc.2.2.2.mpr h0
    have hq1 : k0_chk1 k (wd (k.val + 1)) (wd k.val) (wd k.val) (wd (k.val - 1)) (wd k.val) := by
      have := chk1_all ⟨k.val, hk⟩; rwa [show min (k.val + 1) 32 = k.val + 1 from by omega] at this
    have hq3 := chk3_at k.val hk33
    clear hc
    iintro ⟨⟨Ha1, Ha2, Ha3, Ha4, Ha5, Ha6, Ha7, Ha8⟩, Hd1, Hd2, Hd3, ⟨%W, HW⟩, ⟨%fr, HR0⟩, ⟨%fr1, HR1⟩, HRc, Hx, HW0, ⟨%fw1, HW1⟩, HWc, Ho⟩
    dsimp only [tripG]
    sl_unfold [k0_t1_body]
    sl_exec
    sl_step
    isplitr
    · ipureintro; clear * - k; revert k; decide +kernel
    isplitl [Ha1 Ha2 Ha3 Ha4 Ha5 Ha6 Ha7 Ha8]
    · isplitl [Ha1]; · iexact Ha1
      isplitl [Ha2]; · iexact Ha2
      isplitl [Ha3]; · iexact Ha3
      isplitl [Ha4]; · iexact Ha4
      isplitl [Ha5]; · iexact Ha5
      isplitl [Ha6]; · iexact Ha6
      isplitl [Ha7]; · iexact Ha7
      iexact Ha8
    isplitl [Hd1]; · iexact Hd1
    isplitl [Hd2]; · iexact Hd2
    isplitl [Hd3]; · iexists _; iexact Hd3
    isplitl [HW]; · iexists _; iexact HW
    isplitl [HRc]; · iexists fr1; iexact HRc
    isplitl [HR0_dst]; · iexists _; iexact HR0_dst
    isplitl [HR0]; · iexact HR0
    isplitl [HR0_src]; · iexact HR0_src
    isplitl [HWc]; · iexists fw1; iexact HWc
    isplitl [HW0_src]; · iexact HW0_src
    isplitl [HW0]; · iexact HW0
    iexact HW0_dst

/-- What a trip stores into the first row buffer (the gate half of the projected tile). -/
abbrev pcs1 (k : Fin k0_t1_loop.trips) (hq2 : k0_chk2 (wd k.val)) (d1 : Buf (Elt F) (sM1.view.loc (c : Thread nD τ))) := tripMid.sl.Hd1_12 c I k hq2 d1
/-- What a trip stores into the second row buffer (the gate half again, one row lower). -/
abbrev pcs2 (k : Fin k0_t1_loop.trips) (hq2 : k0_chk2 (wd k.val)) (d2 : Buf (Elt F) (sM2.view.loc (c : Thread nD τ))) := tripMid.sl.Hd2_12 c I k hq2 d2
/-- What a trip stores into its output slot. -/
abbrev pcsW (k : Fin k0_t1_loop.trips) (hq2 : k0_chk2 (wd k.val)) (d1 : Buf (Elt F) (sM1.view.loc (c : Thread nD τ)))
    (d2 : Buf (Elt F) (sM2.view.loc (c : Thread nD τ))) := tripMid.sl.HW1_2 c I k hq2 d1 d2
/-- The tile that leaves the slot. -/
abbrev gone (k : Fin k0_t1_loop.trips) (hq2 : k0_chk2 (wd k.val)) (d1 : Buf (Elt F) (sM1.view.loc (c : Thread nD τ)))
    (d2 : Buf (Elt F) (sM2.view.loc (c : Thread nD τ))) (f : Buf (Elt F) ((wslot (Ring.sl 2 k.val)).view.loc (c : Thread nD τ))) := tripMid.sl.dma155 c I k hq2 d1 d2 f

end Trip
end Cert.Proof.Ffn
end
-- ==== Proof.TripFirst.lean ====
module

public import proofs.«01_k».proof.Proof.Trip

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Trip
variable (c : Dev nD) (I : Inp F c)

set_option maxHeartbeats 800000 in
/-- The first trip: nothing has been sent yet, so nothing is waited for. -/
theorem tripFirst (k : Fin k0_t1_loop.trips) (h0 : k.val = 0) (hq2 : k0_chk2 (wd k.val))
    (d1 : Buf (Elt F) (sM1.view.loc (c : Thread nD τ))) (d2 : Buf (Elt F) (sM2.view.loc (c : Thread nD τ))) (d3 : Buf (Elt F) (sM3.view.loc (c : Thread nD τ))) (xo) :
    iprop(inputs c I ∗ held c sM1 d1 ∗ held c sM2 d2 ∗ held c sM3 d3
      ∗ (∃ W, owes (c : Thread nD τ) 0 W)
      ∗ (∃ f, fetching c I (Ring.sl 2 k.val) (Ring.bk 32 k.val) f)
      ∗ (∃ f, held c (rslot (Ring.sl 2 (k.val + 1))) f) ∗ rcell c (Ring.sl 2 (k.val + 1))
      ∗ xhome c I (Ring.bk 32 (k.val + 1))
      ∗ (∃ f, held c (wslot (Ring.sl 2 k.val)) f) ∗ wcell c (Ring.sl 2 k.val) ∗ held c (oblk (Ring.bk 32 k.val)) xo)
      ⊢ wp frame (wpE (defs₀ (F := F)) 𝒱₀ (c : Thread nD τ) none) Set.univ (tripG k (wd (k.val + 1), wd k.val, wd k.val, wd (k.val - 1), wd k.val))
        (fun acc => iprop(⌜acc = accAt (k.val + 1)⌝ ∗ inputs c I ∗ held c sM1 (sM1.view.writes (Elt F) d1 (pcs1 c I k hq2 d1)) ∗ held c sM2 (sM2.view.writes (Elt F) d2 (pcs2 c I k hq2 d2))
          ∗ (∃ f, held c sM3 f)
          ∗ (∃ W, owes (c : Thread nD τ) 0 W)
          ∗ (∃ f, fetching c I (Ring.sl 2 (k.val + 1)) (Ring.bk 32 (k.val + 1)) f)
          ∗ (∃ f, held c (rslot (Ring.sl 2 k.val)) f) ∗ rcell c (Ring.sl 2 k.val)
          ∗ xhome c I (Ring.bk 32 k.val)
          ∗ (∃ f, sending c (Ring.sl 2 k.val) (Ring.bk 32 k.val) ((oblk (Ring.bk 32 k.val)).view.writes (Elt F) xo [⟨Rect.whole S512x1024, gone c I k hq2 d1 d2 f⟩])
              ((wslot (Ring.sl 2 k.val)).view.writes (Elt F) f (pcsW c I k hq2 d1 d2))))) := by
  have hk : k.val < 32 := Nat.lt_of_lt_of_eq k.isLt trips_eq
  have hk33 : k.val < 33 := by omega
  have hs33 : k.val + 1 < 33 := by omega
  have hp33 : k.val - 1 < 33 := by omega
  have hc := conds ⟨k.val, hk⟩
  have hc2 : k0_cond2 k (wd k.val) = 1#1 := hc.2.1
  have hc5 : k0_cond5 k (wd k.val) = 1#1 := hc.2.2.1
  have hc1 : k0_cond1 k (wd k.val) = 1#1 := hc.1.mpr (by show k.val + 1 < 32; omega)
  have hc7 : ¬ k0_cond7 k (wd k.val) = 1#1 := fun h => absurd (hc.2.2.2.mp h) (by show ¬ 0 < k.val; omega)
  have hq1 : k0_chk1 k (wd (k.val + 1)) (wd k.val) (wd k.val) (wd (k.val - 1)) (wd k.val) := by
    have := chk1_all ⟨k.val, hk⟩; rwa [show min (k.val + 1) 32 = k.val + 1 from by omega] at this
  have hq3 := chk3_at k.val hk33
  clear hc
  iintro ⟨⟨Ha1, Ha2, Ha3, Ha4, Ha5, Ha6, Ha7, Ha8⟩, Hd1, Hd2, Hd3, ⟨%W, HW⟩, ⟨%fr, HR0⟩, ⟨%fr1, HR1⟩, HRc, Hx, ⟨%fw1, HW1⟩, HWc, Ho⟩
  dsimp only [tripG]
  sl_unfold [k0_t1_body]
  sl_exec
  sl_step
  isplitr
  · ipureintro; clear * - k; revert k; decide +kernel
  isplitl [Ha1 Ha2 Ha3 Ha4 Ha5 Ha6 Ha7 Ha8]
  · isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    iexact Ha8
  isplitl [Hd1]; · iexact Hd1
  isplitl [Hd2]; · iexact Hd2
  isplitl [Hd3]; · iexists _; iexact Hd3
  isplitl [HW]; · iexists _; iexact HW
  isplitl [HRc]; · iexists fr1; iexact HRc
  isplitl [HR0_dst]; · iexists _; iexact HR0_dst
  isplitl [HR0]; · iexact HR0
  isplitl [HR0_src]; · iexact HR0_src
  iexists fw1; iexact HWc

end Trip
end Cert.Proof.Ffn
end
-- ==== Proof.TripLast.lean ====
module

public import proofs.«01_k».proof.Proof.Trip

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Trip
variable (c : Dev nD) (I : Inp F c)

set_option maxHeartbeats 800000 in
/-- The last trip: there is no next tile to fetch. -/
theorem tripLast (k : Fin k0_t1_loop.trips) (h1 : k.val + 1 = 32) (hq2 : k0_chk2 (wd k.val)) (fo fw)
    (d1 : Buf (Elt F) (sM1.view.loc (c : Thread nD τ))) (d2 : Buf (Elt F) (sM2.view.loc (c : Thread nD τ))) (d3 : Buf (Elt F) (sM3.view.loc (c : Thread nD τ))) (xo) :
    iprop(inputs c I ∗ held c sM1 d1 ∗ held c sM2 d2 ∗ held c sM3 d3
      ∗ (∃ W, owes (c : Thread nD τ) 0 W)
      ∗ (∃ f, fetching c I (Ring.sl 2 k.val) (Ring.bk 32 k.val) f)
      ∗ sending c (Ring.sl 2 (k.val - 1)) (Ring.bk 32 (k.val - 1)) fo fw
      ∗ (∃ f, held c (wslot (Ring.sl 2 k.val)) f) ∗ wcell c (Ring.sl 2 k.val) ∗ held c (oblk (Ring.bk 32 k.val)) xo)
      ⊢ wp frame (wpE (defs₀ (F := F)) 𝒱₀ (c : Thread nD τ) none) Set.univ (tripG k (wd (k.val + 1), wd k.val, wd k.val, wd (k.val - 1), wd k.val))
        (fun acc => iprop(⌜acc = accAt (k.val + 1)⌝ ∗ inputs c I ∗ held c sM1 (sM1.view.writes (Elt F) d1 (pcs1 c I k hq2 d1)) ∗ held c sM2 (sM2.view.writes (Elt F) d2 (pcs2 c I k hq2 d2))
          ∗ (∃ f, held c sM3 f)
          ∗ (∃ W, owes (c : Thread nD τ) 0 W)
          ∗ (∃ f, held c (rslot (Ring.sl 2 k.val)) f) ∗ rcell c (Ring.sl 2 k.val)
          ∗ xhome c I (Ring.bk 32 k.val)
          ∗ (∃ f, sending c (Ring.sl 2 k.val) (Ring.bk 32 k.val) ((oblk (Ring.bk 32 k.val)).view.writes (Elt F) xo [⟨Rect.whole S512x1024, gone c I k hq2 d1 d2 f⟩])
              ((wslot (Ring.sl 2 k.val)).view.writes (Elt F) f (pcsW c I k hq2 d1 d2)))
          ∗ held c (wslot (Ring.sl 2 (k.val - 1))) fw ∗ wcell c (Ring.sl 2 (k.val - 1)) ∗ held c (oblk (Ring.bk 32 (k.val - 1))) fo)) := by
  have hk : k.val < 32 := Nat.lt_of_lt_of_eq k.isLt trips_eq
  have hk33 : k.val < 33 := by omega
  have hs33 : k.val + 1 < 33 := by omega
  have hp33 : k.val - 1 < 33 := by omega
  have hc := conds ⟨k.val, hk⟩
  have hc2 : k0_cond2 k (wd k.val) = 1#1 := hc.2.1
  have hc5 : k0_cond5 k (wd k.val) = 1#1 := hc.2.2.1
  have hc1 : ¬ k0_cond1 k (wd k.val) = 1#1 := fun h => absurd (hc.1.mp h) (by show ¬ k.val + 1 < 32; omega)
  have hc7 : k0_cond7 k (wd k.val) = 1#1 := hc.2.2.2.mpr (by show 0 < k.val; omega)
  have hq1 : k0_chk1 k (wd (k.val + 1)) (wd k.val) (wd k.val) (wd (k.val - 1)) (wd k.val) := by
    have := chk1_all ⟨k.val, hk⟩; rwa [show min (k.val + 1) 32 = k.val + 1 from by omega] at this
  have hq3 := chk3_at k.val hk33
  clear hc
  iintro ⟨⟨Ha1, Ha2, Ha3, Ha4, Ha5, Ha6, Ha7, Ha8⟩, Hd1, Hd2, Hd3, ⟨%W, HW⟩, ⟨%fr, HR0⟩, HW0, ⟨%fw1, HW1⟩, HWc, Ho⟩
  dsimp only [tripG]
  sl_unfold [k0_t1_body]
  sl_exec
  sl_step
  isplitr
  · ipureintro; clear * - k; revert k; decide +kernel
  isplitl [Ha1 Ha2 Ha3 Ha4 Ha5 Ha6 Ha7 Ha8]
  · isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    iexact Ha8
  isplitl [Hd1]; · iexact Hd1
  isplitl [Hd2]; · iexact Hd2
  isplitl [Hd3]; · iexists _; iexact Hd3
  isplitl [HW]; · iexists _; iexact HW
  isplitl [HR0_dst]; · iexists _; iexact HR0_dst
  isplitl [HR0]; · iexact HR0
  isplitl [HR0_src]; · iexact HR0_src
  isplitl [HWc]; · iexists fw1; iexact HWc
  isplitl [HW0_src]; · iexact HW0_src
  isplitl [HW0]; · iexact HW0
  iexact HW0_dst

end Trip
end Cert.Proof.Ffn
end
-- ==== Proof.TripBetween.lean ====
module

public import proofs.«01_k».proof.Proof.Trip

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Trip
variable (c : Dev nD) (I : Inp F c)

set_option maxHeartbeats 800000 in
/-- A trip in between, stated at the names above. -/
theorem tripBetween (k : Fin k0_t1_loop.trips) (h0 : 0 < k.val) (h1 : k.val + 1 < 32) (hq2 : k0_chk2 (wd k.val)) (fo fw)
    (d1 : Buf (Elt F) (sM1.view.loc (c : Thread nD τ))) (d2 : Buf (Elt F) (sM2.view.loc (c : Thread nD τ))) (d3 : Buf (Elt F) (sM3.view.loc (c : Thread nD τ))) (xo) :
    iprop(inputs c I ∗ held c sM1 d1 ∗ held c sM2 d2 ∗ held c sM3 d3
      ∗ (∃ W, owes (c : Thread nD τ) 0 W)
      ∗ (∃ f, fetching c I (Ring.sl 2 k.val) (Ring.bk 32 k.val) f)
      ∗ (∃ f, held c (rslot (Ring.sl 2 (k.val + 1))) f) ∗ rcell c (Ring.sl 2 (k.val + 1))
      ∗ xhome c I (Ring.bk 32 (k.val + 1))
      ∗ sending c (Ring.sl 2 (k.val - 1)) (Ring.bk 32 (k.val - 1)) fo fw
      ∗ (∃ f, held c (wslot (Ring.sl 2 k.val)) f) ∗ wcell c (Ring.sl 2 k.val) ∗ held c (oblk (Ring.bk 32 k.val)) xo)
      ⊢ wp frame (wpE (defs₀ (F := F)) 𝒱₀ (c : Thread nD τ) none) Set.univ (tripG k (wd (k.val + 1), wd k.val, wd k.val, wd (k.val - 1), wd k.val))
        (fun acc => iprop(⌜acc = accAt (k.val + 1)⌝ ∗ inputs c I ∗ held c sM1 (sM1.view.writes (Elt F) d1 (pcs1 c I k hq2 d1)) ∗ held c sM2 (sM2.view.writes (Elt F) d2 (pcs2 c I k hq2 d2))
          ∗ (∃ f, held c sM3 f)
          ∗ (∃ W, owes (c : Thread nD τ) 0 W)
          ∗ (∃ f, fetching c I (Ring.sl 2 (k.val + 1)) (Ring.bk 32 (k.val + 1)) f)
          ∗ (∃ f, held c (rslot (Ring.sl 2 k.val)) f) ∗ rcell c (Ring.sl 2 k.val)
          ∗ xhome c I (Ring.bk 32 k.val)
          ∗ (∃ f, sending c (Ring.sl 2 k.val) (Ring.bk 32 k.val) ((oblk (Ring.bk 32 k.val)).view.writes (Elt F) xo [⟨Rect.whole S512x1024, gone c I k hq2 d1 d2 f⟩])
              ((wslot (Ring.sl 2 k.val)).view.writes (Elt F) f (pcsW c I k hq2 d1 d2)))
          ∗ held c (wslot (Ring.sl 2 (k.val - 1))) fw ∗ wcell c (Ring.sl 2 (k.val - 1)) ∗ held c (oblk (Ring.bk 32 (k.val - 1))) fo)) := by
  have hk : k.val < 32 := Nat.lt_of_lt_of_eq k.isLt trips_eq
  have hk33 : k.val < 33 := by omega
  have hs33 : k.val + 1 < 33 := by omega
  have hp33 : k.val - 1 < 33 := by omega
  have hc := conds ⟨k.val, hk⟩
  have hc2 : k0_cond2 k (wd k.val) = 1#1 := hc.2.1
  have hc5 : k0_cond5 k (wd k.val) = 1#1 := hc.2.2.1
  have hc1 : k0_cond1 k (wd k.val) = 1#1 := hc.1.mpr (by show k.val + 1 < 32; omega)
  have hc7 : k0_cond7 k (wd k.val) = 1#1 := hc.2.2.2.mpr (by show 0 < k.val; omega)
  have hq1 : k0_chk1 k (wd (k.val + 1)) (wd k.val) (wd k.val) (wd (k.val - 1)) (wd k.val) := by
    have := chk1_all ⟨k.val, hk⟩; rwa [show min (k.val + 1) 32 = k.val + 1 from by omega] at this
  have hq3 := chk3_at k.val hk33
  clear hc
  iintro ⟨⟨Ha1, Ha2, Ha3, Ha4, Ha5, Ha6, Ha7, Ha8⟩, Hd1, Hd2, Hd3, ⟨%W, HW⟩, ⟨%fr, HR0⟩, ⟨%fr1, HR1⟩, HRc, Hx, HW0, ⟨%fw1, HW1⟩, HWc, Ho⟩
  dsimp only [tripG]
  sl_unfold [k0_t1_body]
  sl_exec
  sl_step
  isplitr
  · ipureintro; clear * - k; revert k; decide +kernel
  isplitl [Ha1 Ha2 Ha3 Ha4 Ha5 Ha6 Ha7 Ha8]
  · isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    iexact Ha8
  isplitl [Hd1]; · iexact Hd1
  isplitl [Hd2]; · iexact Hd2
  isplitl [Hd3]; · iexists _; iexact Hd3
  isplitl [HW]; · iexists _; iexact HW
  isplitl [HRc]; · iexists fr1; iexact HRc
  isplitl [HR0_dst]; · iexists _; iexact HR0_dst
  isplitl [HR0]; · iexact HR0
  isplitl [HR0_src]; · iexact HR0_src
  isplitl [HWc]; · iexists fw1; iexact HWc
  isplitl [HW0_src]; · iexact HW0_src
  isplitl [HW0]; · iexact HW0
  iexact HW0_dst

end Trip
end Cert.Proof.Ffn
end
-- ==== Proof.Loop.lean ====
module

public import proofs.«01_k».proof.Proof.TripFirst
public import proofs.«01_k».proof.Proof.TripLast
public import proofs.«01_k».proof.Proof.TripBetween
public import Idealize.ShloMosaic.Lib.Pipeline.FrameBody

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

theorem of_eq {P Q : sProp 𝕄} (e : P = Q) : P ⊢ Q := e ▸ .rfl

/-! ## The state before a trip -/

section State
variable (c : Dev nD) (I : Inp F c)
variable (z1 : Buf (Elt F) (sM1.view.loc (c : Thread nD τ))) (z2 : Buf (Elt F) (sM2.view.loc (c : Thread nD τ)))

theorem chk2_trip (k : Fin k0_t1_loop.trips) : k0_chk2 (wd k.val) := chk2_at k.val (by have := Nat.lt_of_lt_of_eq k.isLt trips_eq; omega)

/-- The two row buffers before trip `n`: from their contents at the loop's entry, each trip's stores on top. -/
def st : ℕ → Buf (Elt F) (sM1.view.loc (c : Thread nD τ)) × Buf (Elt F) (sM2.view.loc (c : Thread nD τ))
  | 0 => (z1, z2)
  | n + 1 =>
    if h : n < k0_t1_loop.trips then
      (sM1.view.writes (Elt F) (st n).1 (pcs1 c I ⟨n, h⟩ (chk2_trip ⟨n, h⟩) (st n).1), sM2.view.writes (Elt F) (st n).2 (pcs2 c I ⟨n, h⟩ (chk2_trip ⟨n, h⟩) (st n).2))
    else st n

theorem st_succ (k : Fin k0_t1_loop.trips) :
    st c I z1 z2 (k.val + 1) = (sM1.view.writes (Elt F) (st c I z1 z2 k.val).1 (pcs1 c I k (chk2_trip k) (st c I z1 z2 k.val).1),
      sM2.view.writes (Elt F) (st c I z1 z2 k.val).2 (pcs2 c I k (chk2_trip k) (st c I z1 z2 k.val).2)) := by
  rw [st, dif_pos k.isLt]

/-- Tile `b` of the result: what trip `b` stores into its output slot. -/
def tile (b : Fin 32) : S512x1024.Idx → Elt F .f32 :=
  View.canon (pcsW c I (b.cast trips_eq.symm) (chk2_trip (b.cast trips_eq.symm)) (st c I z1 z2 b.val).1 (st c I z1 z2 b.val).2)

theorem bk_trip (k : Fin k0_t1_loop.trips) : Ring.bk 32 k.val = k.cast trips_eq :=
  Fin.ext (Ring.bk_val (Nat.lt_of_lt_of_eq k.isLt trips_eq))

theorem tile_trip (k : Fin k0_t1_loop.trips) :
    tile c I z1 z2 (Ring.bk 32 k.val) = View.canon (pcsW c I k (chk2_trip k) (st c I z1 z2 k.val).1 (st c I z1 z2 k.val).2) := by
  rw [bk_trip]; rfl

theorem pcsW_cover (k : Fin k0_t1_loop.trips) (hq2 : k0_chk2 (wd k.val)) (d1 d2) (y : S512x1024.Idx) : ∃ p ∈ pcsW c I k hq2 d1 d2, y ∈ p.1.set := by
  have h1 : (y 1).val < 1024 := (y 1).isLt
  have h0 : (y 0).val < 512 := (y 0).isLt
  by_cases h : (y 0).val < 256
  · refine ⟨_, List.mem_cons_of_mem _ (List.mem_cons_self ..), ?_⟩
    refine (Rect.mem_set_unit (inb := inb_S512x1024_S256x1024_0_0)).mpr ?_
    intro i
    fin_cases i
    · show 0 ≤ (y 0).val ∧ (y 0).val < 0 + 256; omega
    · show 0 ≤ (y 1).val ∧ (y 1).val < 0 + 1024; omega
  · refine ⟨_, List.mem_cons_self .., ?_⟩
    refine (Rect.mem_set_unit (inb := inb_S512x1024_S256x1024_256_0)).mpr ?_
    intro i
    fin_cases i
    · show 256 ≤ (y 0).val ∧ (y 0).val < 256 + 256; omega
    · show 0 ≤ (y 1).val ∧ (y 1).val < 0 + 1024; omega

/-- What leaves the slot is the tile, whatever the slot held before. -/
theorem gone_eq (k : Fin k0_t1_loop.trips) (f : Buf (Elt F) ((wslot (Ring.sl 2 k.val)).view.loc (c : Thread nD τ))) :
    gone c I k (chk2_trip k) (st c I z1 z2 k.val).1 (st c I z1 z2 k.val).2 f = tile c I z1 z2 (Ring.bk 32 k.val) := by
  rw [tile_trip]
  exact View.read_writes_eq_canon (wslot (Ring.sl 2 k.val)).view f _ (pcsW_cover c I k _ _ _)

/-! ## The blocks at home -/

abbrev xset (k : ℕ) : Finset (Fin 32) := Finset.univ.filter fun b => b.val ≠ k
abbrev xmid (k : ℕ) : Finset (Fin 32) := Finset.univ.filter fun b => b.val ≠ k ∧ b.val ≠ k + 1
abbrev oset (k : ℕ) : Finset (Fin 32) := Finset.univ.filter fun b => b.val + 1 ≠ k
abbrev omid (k : ℕ) : Finset (Fin 32) := Finset.univ.filter fun b => b.val ≠ k ∧ b.val + 1 ≠ k

theorem bk_ex (k : ℕ) (h : k < 32) : ∃ a : Fin 32, Ring.bk 32 k = a ∧ a.val = k := ⟨_, rfl, Ring.bk_val h⟩

theorem xset_take (Φ : Fin 32 → sProp 𝕄) (k : ℕ) (h : k + 1 < 32) : bigSep (xset k) Φ = iprop(Φ (Ring.bk 32 (k + 1)) ∗ bigSep (xmid k) Φ) := by
  obtain ⟨a, e, ha⟩ := bk_ex (k + 1) h
  rw [e, Ring.bigSep_take (S := xset k) (b := a) (by simp [ha])]
  have e' : (xset k).erase a = xmid k := by ext b; simp [Fin.ext_iff, ha, and_comm]
  rw [e']
theorem xset_put (Φ : Fin 32 → sProp 𝕄) (k : ℕ) (h : k + 1 < 32) : bigSep (xset (k + 1)) Φ = iprop(Φ (Ring.bk 32 k) ∗ bigSep (xmid k) Φ) := by
  obtain ⟨a, e, ha⟩ := bk_ex k (by omega)
  rw [e, Ring.bigSep_take (S := xset (k + 1)) (b := a) (by simp [ha])]
  have e' : (xset (k + 1)).erase a = xmid k := by ext b; simp [Fin.ext_iff, ha]
  rw [e']
theorem xset_all (Φ : Fin 32 → sProp 𝕄) (k : ℕ) (h : k < 32) : bigSep Finset.univ Φ = iprop(Φ (Ring.bk 32 k) ∗ bigSep (xset k) Φ) := by
  obtain ⟨a, e, ha⟩ := bk_ex k h
  rw [e, Ring.bigSep_take (S := Finset.univ) (b := a) (Finset.mem_univ _)]
  have e' : Finset.univ.erase a = xset k := by ext b; simp [Fin.ext_iff, ha]
  rw [e']

variable (xo : Buf (Elt F) (oM.view.loc (c : Thread nD τ)))

/-- A result tile once it is written. -/
abbrev done (b : Fin 32) : Buf (Elt F) ((oblk b).view.loc (c : Thread nD τ)) :=
  (oblk b).view.writes (Elt F) (xo : Buf (Elt F) ((oblk b).view.loc (c : Thread nD τ))) [⟨Rect.whole S512x1024, tile c I z1 z2 b⟩]
abbrev odone (b : Fin 32) : sProp 𝕄 := held c (oblk b) (done c I z1 z2 xo b)
abbrev onew (b : Fin 32) : sProp 𝕄 := held c (oblk b) (xo : Buf (Elt F) ((oblk b).view.loc (c : Thread nD τ)))
abbrev oAt (k : ℕ) (b : Fin 32) : sProp 𝕄 := if b.val < k then odone c I z1 z2 xo b else onew c xo b

theorem oset_zero : bigSep (oset 0) (oAt c I z1 z2 xo 0) = bigSep Finset.univ (onew c xo) := by
  have e : oset 0 = Finset.univ := by ext b; simp
  rw [e]; exact BI.bigSep_congr fun b _ => by simp [oAt]
theorem oset_take (k : ℕ) (h : k < 32) : bigSep (oset k) (oAt c I z1 z2 xo k) = iprop(onew c xo (Ring.bk 32 k) ∗ bigSep (omid k) (oAt c I z1 z2 xo k)) := by
  obtain ⟨a, e, ha⟩ := bk_ex k h
  rw [e, Ring.bigSep_take (S := oset k) (b := a) (by simp [ha])]
  have e' : (oset k).erase a = omid k := by ext b; simp [Fin.ext_iff, ha]
  have e2 : oAt c I z1 z2 xo k a = onew c xo a := if_neg (by omega)
  rw [e', e2]
theorem omid_succ (k : ℕ) : bigSep (omid k) (oAt c I z1 z2 xo k) = bigSep (omid k) (oAt c I z1 z2 xo (k + 1)) := by
  refine BI.bigSep_congr fun b hb => ?_
  have : b.val ≠ k := (Finset.mem_filter.mp hb).2.1
  by_cases h : b.val < k
  · rw [oAt, if_pos h, oAt, if_pos (by omega)]
  · rw [oAt, if_neg h, oAt, if_neg (by omega)]
theorem oset_put (k : ℕ) (h0 : 0 < k) (h : k < 32) :
    bigSep (oset (k + 1)) (oAt c I z1 z2 xo (k + 1)) = iprop(odone c I z1 z2 xo (Ring.bk 32 (k - 1)) ∗ bigSep (omid k) (oAt c I z1 z2 xo k)) := by
  obtain ⟨a, e, ha⟩ := bk_ex (k - 1) (by omega)
  rw [e, omid_succ, Ring.bigSep_take (S := oset (k + 1)) (b := a) (by simp [ha]; omega)]
  have e' : (oset (k + 1)).erase a = omid k := by ext b; simp [Fin.ext_iff, ha]; omega
  have e2 : oAt c I z1 z2 xo (k + 1) a = odone c I z1 z2 xo a := if_pos (by omega)
  rw [e', e2]
theorem oset_one : bigSep (oset 1) (oAt c I z1 z2 xo 1) = bigSep (omid 0) (oAt c I z1 z2 xo 0) := by
  rw [omid_succ]
  have e : oset 1 = omid 0 := by ext b; simp
  rw [e]
theorem oset_end : iprop(odone c I z1 z2 xo (Ring.bk 32 31) ∗ bigSep (oset 32) (oAt c I z1 z2 xo 32)) = bigSep Finset.univ (odone c I z1 z2 xo) := by
  obtain ⟨a, e, ha⟩ := bk_ex 31 (by omega)
  rw [e, Ring.bigSep_take (S := Finset.univ) (b := a) (Finset.mem_univ _)]
  have e' : oset 32 = Finset.univ.erase a := by ext b; simp [Fin.ext_iff, ha]
  have e2 : bigSep (Finset.univ.erase a) (oAt c I z1 z2 xo 32) = bigSep (Finset.univ.erase a) (odone c I z1 z2 xo) := BI.bigSep_congr fun b _ => if_pos b.isLt
  rw [e', e2]

theorem sl_two (n : ℕ) : Ring.sl 2 (n + 1 + 1) = Ring.sl 2 n := Fin.ext (by show (n + 1 + 1) % 2 = n % 2; omega)
theorem sl_pred (n : ℕ) (h : 0 < n) : Ring.sl 2 (n - 1) = Ring.sl 2 (n + 1) := by
  obtain ⟨m, rfl⟩ : ∃ m, n = m + 1 := ⟨n - 1, by omega⟩
  exact (sl_two m).symm

/-! ## The loop's invariant -/

/-- What every trip is handed and hands back: the operands, the row buffers at their state, the activations, the core's waits. -/
abbrev common (k : ℕ) : sProp 𝕄 :=
  iprop(inputs c I ∗ held c sM1 (st c I z1 z2 k).1 ∗ held c sM2 (st c I z1 z2 k).2 ∗ (∃ f, held c sM3 f) ∗ (∃ W, owes (c : Thread nD τ) 0 W))

/-- Before the first trip: tile 0 on its way in, nothing on its way out. -/
def atStart : sProp 𝕄 :=
  iprop(common c I z1 z2 0
    ∗ (∃ f, fetching c I (Ring.sl 2 0) (Ring.bk 32 0) f) ∗ (∃ f, held c (rslot (Ring.sl 2 1)) f) ∗ rcell c (Ring.sl 2 1)
    ∗ bigSep (xset 0) (xhome c I)
    ∗ (∃ f, held c (wslot (Ring.sl 2 0)) f) ∗ wcell c (Ring.sl 2 0) ∗ (∃ f, held c (wslot (Ring.sl 2 1)) f) ∗ wcell c (Ring.sl 2 1)
    ∗ bigSep Finset.univ (onew c xo))
/-- Before trip `k`, `0 < k < 32`: tile `k` on its way in, result tile `k - 1` on its way out. -/
def atTrip (k : ℕ) : sProp 𝕄 :=
  iprop(common c I z1 z2 k
    ∗ (∃ f, fetching c I (Ring.sl 2 k) (Ring.bk 32 k) f) ∗ (∃ f, held c (rslot (Ring.sl 2 (k + 1))) f) ∗ rcell c (Ring.sl 2 (k + 1))
    ∗ bigSep (xset k) (xhome c I)
    ∗ (∃ f, sending c (Ring.sl 2 (k - 1)) (Ring.bk 32 (k - 1)) (done c I z1 z2 xo (Ring.bk 32 (k - 1))) f)
    ∗ (∃ f, held c (wslot (Ring.sl 2 k)) f) ∗ wcell c (Ring.sl 2 k)
    ∗ bigSep (oset k) (oAt c I z1 z2 xo k))
/-- After the last trip: every input tile home, the last result tile on its way out. -/
def atEnd : sProp 𝕄 :=
  iprop(common c I z1 z2 32
    ∗ (∃ f, held c (rslot (Ring.sl 2 31)) f) ∗ rcell c (Ring.sl 2 31) ∗ (∃ f, held c (rslot (Ring.sl 2 32)) f) ∗ rcell c (Ring.sl 2 32)
    ∗ bigSep Finset.univ (xhome c I)
    ∗ (∃ f, sending c (Ring.sl 2 31) (Ring.bk 32 31) (done c I z1 z2 xo (Ring.bk 32 31)) f)
    ∗ (∃ f, held c (wslot (Ring.sl 2 32)) f) ∗ wcell c (Ring.sl 2 32)
    ∗ bigSep (oset 32) (oAt c I z1 z2 xo 32))
def invAt (k : ℕ) : sProp 𝕄 := if k = 0 then atStart c I z1 z2 xo else if k < 32 then atTrip c I z1 z2 xo k else atEnd c I z1 z2 xo

theorem sent_eq (k : Fin k0_t1_loop.trips) (f g) :
    sending c (Ring.sl 2 k.val) (Ring.bk 32 k.val) ((oblk (Ring.bk 32 k.val)).view.writes (Elt F) (xo : Buf (Elt F) ((oblk (Ring.bk 32 k.val)).view.loc (c : Thread nD τ)))
        [⟨Rect.whole S512x1024, gone c I k (chk2_trip k) (st c I z1 z2 k.val).1 (st c I z1 z2 k.val).2 f⟩]) g
      = sending c (Ring.sl 2 k.val) (Ring.bk 32 k.val) (done c I z1 z2 xo (Ring.bk 32 k.val)) g := by
  rw [gone_eq]

/-! ## One trip, and the loop -/

theorem accAt_le (k : Fin k0_t1_loop.trips) : accAt k.val = (wd (k.val + 1), wd k.val, wd k.val, wd (k.val - 1), wd k.val) := by
  revert k; decide +kernel

theorem common_zero : common c I z1 z2 0 = iprop(inputs c I ∗ held c sM1 z1 ∗ held c sM2 z2 ∗ (∃ f, held c sM3 f) ∗ (∃ W, owes (c : Thread nD τ) 0 W)) := by
  have e : st c I z1 z2 0 = (z1, z2) := by rw [st]
  rw [common, e]

theorem common_succ (k : Fin k0_t1_loop.trips) : common c I z1 z2 (k.val + 1)
    = iprop(inputs c I ∗ held c sM1 (sM1.view.writes (Elt F) (st c I z1 z2 k.val).1 (pcs1 c I k (chk2_trip k) (st c I z1 z2 k.val).1))
      ∗ held c sM2 (sM2.view.writes (Elt F) (st c I z1 z2 k.val).2 (pcs2 c I k (chk2_trip k) (st c I z1 z2 k.val).2))
      ∗ (∃ f, held c sM3 f) ∗ (∃ W, owes (c : Thread nD τ) 0 W)) := by
  rw [common, st_succ]

abbrev wpTrip (k : Fin k0_t1_loop.trips) (Q : BitVec 32 × BitVec 32 × BitVec 32 × BitVec 32 × BitVec 32 → sProp 𝕄) : sProp 𝕄 :=
  wp frame (wpE (defs₀ (F := F)) 𝒱₀ (c : Thread nD τ) none) Set.univ (tripG k (wd (k.val + 1), wd k.val, wd k.val, wd (k.val - 1), wd k.val)) Q

theorem step_first (k : Fin k0_t1_loop.trips) (h0 : k.val = 0) :
    atStart c I z1 z2 xo ⊢ wpTrip c k (fun acc => iprop(⌜acc = accAt (k.val + 1)⌝ ∗ atTrip c I z1 z2 xo (k.val + 1))) := by
  have e : atStart c I z1 z2 xo = iprop(common c I z1 z2 k.val
    ∗ (∃ f, fetching c I (Ring.sl 2 k.val) (Ring.bk 32 k.val) f) ∗ (∃ f, held c (rslot (Ring.sl 2 (k.val + 1))) f) ∗ rcell c (Ring.sl 2 (k.val + 1))
    ∗ (xhome c I (Ring.bk 32 (k.val + 1)) ∗ bigSep (xmid k.val) (xhome c I))
    ∗ (∃ f, held c (wslot (Ring.sl 2 k.val)) f) ∗ wcell c (Ring.sl 2 k.val) ∗ (∃ f, held c (wslot (Ring.sl 2 (k.val + 1))) f) ∗ wcell c (Ring.sl 2 (k.val + 1))
    ∗ (onew c xo (Ring.bk 32 k.val) ∗ bigSep (omid k.val) (oAt c I z1 z2 xo k.val))) := by
    rw [← xset_take _ _ (by omega), ← oset_take _ _ _ _ _ _ (by omega), h0, oset_zero]; rfl
  rw [e]
  unfold atTrip
  rw [xset_put _ _ (by omega), show oset (k.val + 1) = oset 1 from by rw [h0], show oAt c I z1 z2 xo (k.val + 1) = oAt c I z1 z2 xo 1 from by rw [h0], oset_one,
    show omid 0 = omid k.val from by rw [h0], show oAt c I z1 z2 xo 0 = oAt c I z1 z2 xo k.val from by rw [h0], sl_two, common_succ]
  iintro ⟨⟨HI, Hd1, Hd2, ⟨%d3, Hd3⟩, HW⟩, Hf, Hr, Hrc, ⟨Hx, Hxs⟩, Hw, Hwc, Hw', Hwc', Ho, Hos⟩
  iapply (wp_wand_r Idealize.ShloMosaic.frame (wpE (defs₀ (F := F)) 𝒱₀ (c : Thread nD τ) none) Set.univ)
  isplitl [HI Hd1 Hd2 Hd3 HW Hf Hr Hrc Hx Hw Hwc Ho]
  · iapply (tripFirst c I k h0 (chk2_trip k) (st c I z1 z2 k.val).1 (st c I z1 z2 k.val).2 d3 xo)
    isplitl [HI]; · iexact HI
    isplitl [Hd1]; · iexact Hd1
    isplitl [Hd2]; · iexact Hd2
    isplitl [Hd3]; · iexact Hd3
    isplitl [HW]; · iexact HW
    isplitl [Hf]; · iexact Hf
    isplitl [Hr]; · iexact Hr
    isplitl [Hrc]; · iexact Hrc
    isplitl [Hx]; · iexact Hx
    isplitl [Hw]; · iexact Hw
    isplitl [Hwc]; · iexact Hwc
    iexact Ho
  · iintro %acc ⟨Ha, HI, Hd1, Hd2, Hd3, HW, Hf, Hr, Hrc, Hx, ⟨%fw, Hs⟩⟩
    isplitl [Ha]; · iexact Ha
    isplitl [HI Hd1 Hd2 Hd3 HW]
    · isplitl [HI]; · iexact HI
      isplitl [Hd1]; · iexact Hd1
      isplitl [Hd2]; · iexact Hd2
      isplitl [Hd3]; · iexact Hd3
      iexact HW
    isplitl [Hf]; · iexact Hf
    isplitl [Hr]; · iexact Hr
    isplitl [Hrc]; · iexact Hrc
    isplitl [Hx Hxs]
    · isplitl [Hx]; · iexact Hx
      iexact Hxs
    isplitl [Hs]
    · iexists _; iapply (of_eq (sent_eq c I z1 z2 xo k fw _)); iexact Hs
    isplitl [Hw']; · iexact Hw'
    isplitl [Hwc']; · iexact Hwc'
    iexact Hos

theorem step_mid (k : Fin k0_t1_loop.trips) (h0 : 0 < k.val) (h1 : k.val + 1 < 32) :
    atTrip c I z1 z2 xo k.val ⊢ wpTrip c k (fun acc => iprop(⌜acc = accAt (k.val + 1)⌝ ∗ atTrip c I z1 z2 xo (k.val + 1))) := by
  unfold atTrip
  rw [xset_take _ _ h1, oset_take _ _ _ _ _ _ (by omega), xset_put _ _ h1, oset_put _ _ _ _ _ _ h0 (by omega), sl_two, common_succ]
  iintro ⟨⟨HI, Hd1, Hd2, ⟨%d3, Hd3⟩, HW⟩, Hf, Hr, Hrc, ⟨Hx, Hxs⟩, ⟨%fw, Hs⟩, Hw, Hwc, Ho, Hos⟩
  iapply (wp_wand_r Idealize.ShloMosaic.frame (wpE (defs₀ (F := F)) 𝒱₀ (c : Thread nD τ) none) Set.univ)
  isplitl [HI Hd1 Hd2 Hd3 HW Hf Hr Hrc Hx Hs Hw Hwc Ho]
  · iapply (tripBetween c I k h0 h1 (chk2_trip k) (done c I z1 z2 xo (Ring.bk 32 (k.val - 1))) fw (st c I z1 z2 k.val).1 (st c I z1 z2 k.val).2 d3 xo)
    isplitl [HI]; · iexact HI
    isplitl [Hd1]; · iexact Hd1
    isplitl [Hd2]; · iexact Hd2
    isplitl [Hd3]; · iexact Hd3
    isplitl [HW]; · iexact HW
    isplitl [Hf]; · iexact Hf
    isplitl [Hr]; · iexact Hr
    isplitl [Hrc]; · iexact Hrc
    isplitl [Hx]; · iexact Hx
    isplitl [Hs]; · iexact Hs
    isplitl [Hw]; · iexact Hw
    isplitl [Hwc]; · iexact Hwc
    iexact Ho
  · iintro %acc ⟨Ha, HI, Hd1, Hd2, Hd3, HW, Hf, Hr, Hrc, Hx, ⟨%fw', Hs⟩, Hw', Hwc', Ho⟩
    isplitl [Ha]; · iexact Ha
    isplitl [HI Hd1 Hd2 Hd3 HW]
    · isplitl [HI]; · iexact HI
      isplitl [Hd1]; · iexact Hd1
      isplitl [Hd2]; · iexact Hd2
      isplitl [Hd3]; · iexact Hd3
      iexact HW
    isplitl [Hf]; · iexact Hf
    isplitl [Hr]; · iexact Hr
    isplitl [Hrc]; · iexact Hrc
    isplitl [Hx Hxs]
    · isplitl [Hx]; · iexact Hx
      iexact Hxs
    isplitl [Hs]
    · iexists _; iapply (of_eq (sent_eq c I z1 z2 xo k fw' _)); iexact Hs
    isplitl [Hw']; · irw [← sl_pred _ h0]; iexists _; iexact Hw'
    isplitl [Hwc']; · irw [← sl_pred _ h0]; iexact Hwc'
    isplitl [Ho]; · iexact Ho
    iexact Hos

theorem step_last (k : Fin k0_t1_loop.trips) (h1 : k.val + 1 = 32) :
    atTrip c I z1 z2 xo k.val ⊢ wpTrip c k (fun acc => iprop(⌜acc = accAt (k.val + 1)⌝ ∗ atEnd c I z1 z2 xo)) := by
  have h0 : 0 < k.val := by omega
  have e : atEnd c I z1 z2 xo = iprop(common c I z1 z2 (k.val + 1)
    ∗ (∃ f, held c (rslot (Ring.sl 2 k.val)) f) ∗ rcell c (Ring.sl 2 k.val) ∗ (∃ f, held c (rslot (Ring.sl 2 (k.val + 1))) f) ∗ rcell c (Ring.sl 2 (k.val + 1))
    ∗ (xhome c I (Ring.bk 32 k.val) ∗ bigSep (xset k.val) (xhome c I))
    ∗ (∃ f, sending c (Ring.sl 2 k.val) (Ring.bk 32 k.val) (done c I z1 z2 xo (Ring.bk 32 k.val)) f)
    ∗ (∃ f, held c (wslot (Ring.sl 2 (k.val + 1))) f) ∗ wcell c (Ring.sl 2 (k.val + 1))
    ∗ (odone c I z1 z2 xo (Ring.bk 32 (k.val - 1)) ∗ bigSep (omid k.val) (oAt c I z1 z2 xo k.val))) := by
    rw [← xset_all _ _ (by omega), ← oset_put _ _ _ _ _ _ h0 (by omega)]
    unfold atEnd
    obtain ⟨k, hk⟩ := k
    obtain rfl : k = 31 := by simpa using h1
    rfl
  rw [e, common_succ]
  unfold atTrip
  rw [oset_take _ _ _ _ _ _ (by omega)]
  iintro ⟨⟨HI, Hd1, Hd2, ⟨%d3, Hd3⟩, HW⟩, Hf, Hr', Hrc', Hxs, ⟨%fw, Hs⟩, Hw, Hwc, Ho, Hos⟩
  iapply (wp_wand_r Idealize.ShloMosaic.frame (wpE (defs₀ (F := F)) 𝒱₀ (c : Thread nD τ) none) Set.univ)
  isplitl [HI Hd1 Hd2 Hd3 HW Hf Hs Hw Hwc Ho]
  · iapply (tripLast c I k h1 (chk2_trip k) (done c I z1 z2 xo (Ring.bk 32 (k.val - 1))) fw (st c I z1 z2 k.val).1 (st c I z1 z2 k.val).2 d3 xo)
    isplitl [HI]; · iexact HI
    isplitl [Hd1]; · iexact Hd1
    isplitl [Hd2]; · iexact Hd2
    isplitl [Hd3]; · iexact Hd3
    isplitl [HW]; · iexact HW
    isplitl [Hf]; · iexact Hf
    isplitl [Hs]; · iexact Hs
    isplitl [Hw]; · iexact Hw
    isplitl [Hwc]; · iexact Hwc
    iexact Ho
  · iintro %acc ⟨Ha, HI, Hd1, Hd2, Hd3, HW, Hr, Hrc, Hx, ⟨%fw', Hs⟩, Hw', Hwc', Ho⟩
    isplitl [Ha]; · iexact Ha
    isplitl [HI Hd1 Hd2 Hd3 HW]
    · isplitl [HI]; · iexact HI
      isplitl [Hd1]; · iexact Hd1
      isplitl [Hd2]; · iexact Hd2
      isplitl [Hd3]; · iexact Hd3
      iexact HW
    isplitl [Hr]; · iexact Hr
    isplitl [Hrc]; · iexact Hrc
    isplitl [Hr']; · iexact Hr'
    isplitl [Hrc']; · iexact Hrc'
    isplitl [Hx Hxs]
    · isplitl [Hx]; · iexact Hx
      iexact Hxs
    isplitl [Hs]
    · iexists _; iapply (of_eq (sent_eq c I z1 z2 xo k fw' _)); iexact Hs
    isplitl [Hw']; · irw [← sl_pred _ h0]; iexists _; iexact Hw'
    isplitl [Hwc']; · irw [← sl_pred _ h0]; iexact Hwc'
    isplitl [Ho]; · iexact Ho
    iexact Hos

/-- The loop's invariant, over the trips. -/
def invL (k : ℕ) (acc : BitVec 32 × BitVec 32 × BitVec 32 × BitVec 32 × BitVec 32) : sProp 𝕄 := iprop(⌜acc = accAt k⌝ ∗ invAt c I z1 z2 xo k)

theorem invL_step (k : Fin k0_t1_loop.trips) (acc) :
    invL c I z1 z2 xo k.val acc ⊢ wp frame (wpE (defs₀ (F := F)) 𝒱₀ (c : Thread nD τ) none) Set.univ (tripG k acc) (invL c I z1 z2 xo (k.val + 1)) := by
  have hk : k.val < 32 := Nat.lt_of_lt_of_eq k.isLt trips_eq
  unfold invL
  iintro ⟨%hacc, H⟩
  subst hacc
  rw [accAt_le]
  rcases Nat.eq_zero_or_pos k.val with h0 | h0
  · rw [show invAt c I z1 z2 xo k.val = atStart c I z1 z2 xo from if_pos h0, show invAt c I z1 z2 xo (k.val + 1) = atTrip c I z1 z2 xo (k.val + 1) from (if_neg (by omega)).trans (if_pos (by omega))]
    exact step_first c I z1 z2 xo k h0
  · rw [show invAt c I z1 z2 xo k.val = atTrip c I z1 z2 xo k.val from (if_neg (by omega)).trans (if_pos hk)]
    by_cases h1 : k.val + 1 < 32
    · rw [show invAt c I z1 z2 xo (k.val + 1) = atTrip c I z1 z2 xo (k.val + 1) from (if_neg (by omega)).trans (if_pos h1)]
      exact step_mid c I z1 z2 xo k h0 h1
    · rw [show invAt c I z1 z2 xo (k.val + 1) = atEnd c I z1 z2 xo from (if_neg (by omega)).trans (if_neg h1)]
      exact step_last c I z1 z2 xo k (by omega)

end State
end Cert.Proof.Ffn
end
-- ==== Proof.Body.lean ====
module

public import proofs.«01_k».proof.Proof.Loop

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The body -/

section Body
variable (c : Dev nD) (I : Inp F c)

abbrev bodyG : Prog (TpuEff nD τ sig (Elt F) Λ₀ .tc) PUnit :=
  cc0_convglu_ffn (F := F) xM (Memref.isWhole_whole _) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_stg6_0) (Memref.isWhole_whole _) (Memref.whole cc0_stg7_0) (Memref.isWhole_whole _)
    oM (Memref.isWhole_whole _) (Memref.whole cc0_scratch0) (Memref.isWhole_whole _) (Memref.whole cc0_scratch1) (Memref.isWhole_whole _)
    (Memref.whole cc0_scratch2) (Memref.isWhole_whole _) rM (Memref.isWhole_whole _) cc0_scoped1 wM (Memref.isWhole_whole _) cc0_scoped3

/-- The row buffers as the loop finds them: their last eight rows zeroed. -/
abbrev zero1 (g : Buf (Elt F) (sM1.view.loc (c : Thread nD τ))) : Buf (Elt F) (sM1.view.loc (c : Thread nD τ)) :=
  sM1.view.writes (Elt F) g [⟨Rect.unit (s := S528x2816) ![520, 0] S8x2816.size inb_S528x2816_S8x2816_520_0, k0_pay87 (F := F)⟩]
abbrev zero2 (g : Buf (Elt F) (sM2.view.loc (c : Thread nD τ))) : Buf (Elt F) (sM2.view.loc (c : Thread nD τ)) :=
  sM2.view.writes (Elt F) g [⟨Rect.unit (s := S528x2816) ![520, 0] S8x2816.size inb_S528x2816_S8x2816_520_0, k0_pay88 (F := F)⟩]

/-- What the body borrows whatever it holds: the scratch buffers, the slots, their cells. -/
abbrev scratch : sProp 𝕄 :=
  iprop((∃ f, held c (rslot 0) f) ∗ (∃ f, held c (rslot 1) f) ∗ rcell c 0 ∗ rcell c 1
    ∗ (∃ f, held c (wslot 0) f) ∗ (∃ f, held c (wslot 1) f) ∗ wcell c 0 ∗ wcell c 1)

set_option maxHeartbeats 800000 in
theorem bodyRun (xo : Buf (Elt F) (oM.view.loc (c : Thread nD τ))) (g1 g2 g3 W) (Q : PUnit → sProp 𝕄) :
    iprop((inputs c I ∗ held c sM1 g1 ∗ held c sM2 g2 ∗ held c sM3 g3 ∗ owes (c : Thread nD τ) 0 W ∗ scratch c
        ∗ bigSep Finset.univ (xhome c I) ∗ bigSep Finset.univ (onew c xo))
      ∗ ((inputs c I ∗ (∃ g, held c sM1 g) ∗ (∃ g, held c sM2 g) ∗ (∃ g, held c sM3 g) ∗ (∃ W, owes (c : Thread nD τ) 0 W) ∗ scratch c
        ∗ bigSep Finset.univ (xhome c I) ∗ bigSep Finset.univ (odone c I (zero1 c g1) (zero2 c g2) xo)) -∗ Q ⟨⟩))
      ⊢ wp frame (wpE (defs₀ (F := F)) 𝒱₀ (c : Thread nD τ) none) Set.univ bodyG Q := by
  rw [xset_all (xhome c I) 0 (by omega)]
  have eb : Ring.bk 32 0 = 0 := Fin.ext rfl
  rw [eb]
  iintro ⟨⟨⟨Ha1, Ha2, Ha3, Ha4, Ha5, Ha6, Ha7, Ha8⟩, Hd1, Hd2, Hd3, HW, ⟨⟨%fr0, Hr0⟩, ⟨%fr1, Hr1⟩, Hrc0, Hrc1, ⟨%fw0, Hw0⟩, ⟨%fw1, Hw1⟩, Hwc0, Hwc1⟩, ⟨Hx0, Hxs⟩, Hos⟩, Hk⟩
  dsimp only [bodyG]
  sl_exec
  sl_for (invL c I (zero1 c g1) (zero2 c g2) xo) $$ [Ha1 Ha2 Ha3 Ha4 Ha5 Ha6 Ha7 Ha8 Hd1 Hd2 Hd3 HW Hr1 Hrc1 Hw0 Hw1 Hwc0 Hwc1 Hxs Hos Hrc0]
  case region => intro k a; exact invL_step c I (zero1 c g1) (zero2 c g2) xo k a
  · unfold invL
    isplitr
    · ipureintro; decide
    irw [show invAt c I (zero1 c g1) (zero2 c g2) xo 0 = atStart c I (zero1 c g1) (zero2 c g2) xo from if_pos rfl]
    unfold atStart
    irw [common_zero]
    isplitl [Ha1 Ha2 Ha3 Ha4 Ha5 Ha6 Ha7 Ha8 Hd1 Hd2 Hd3 HW]
    · isplitl [Ha1 Ha2 Ha3 Ha4 Ha5 Ha6 Ha7 Ha8]
      · isplitl [Ha1]; · iexact Ha1
        isplitl [Ha2]; · iexact Ha2
        isplitl [Ha3]; · iexact Ha3
        isplitl [Ha4]; · iexact Ha4
        isplitl [Ha5]; · iexact Ha5
        isplitl [Ha6]; · iexact Ha6
        isplitl [Ha7]; · iexact Ha7
        iexact Ha8
      isplitl [Hd1]; · iexact Hd1
      isplitl [Hd2]; · iexact Hd2
      isplitl [Hd3]; · iexists _; iexact Hd3
      iexists _; iexact HW
    isplitl [Hrc0]; · iexists fr0; iexact Hrc0
    isplitl [Hr1]; · iexists _; iexact Hr1
    isplitl [Hrc1]; · iexact Hrc1
    isplitl [Hxs]; · iexact Hxs
    isplitl [Hw0]; · iexists _; iexact Hw0
    isplitl [Hwc0]; · iexact Hwc0
    isplitl [Hw1]; · iexists _; iexact Hw1
    isplitl [Hwc1]; · iexact Hwc1
    iexact Hos
  iintro %acc HI
  unfold invL
  icases HI with ⟨%hacc, HI⟩
  obtain rfl : acc = (wd 32, wd 32, wd 32, wd 31, wd 0) := hacc.trans (by decide)
  have eE : invAt c I (zero1 c g1) (zero2 c g2) xo (Scf.trips k0_t1_loop.lb k0_t1_loop.ub k0_t1_loop.st) = atEnd c I (zero1 c g1) (zero2 c g2) xo := by
    rw [show Scf.trips k0_t1_loop.lb k0_t1_loop.ub k0_t1_loop.st = 32 from trips_eq]; rfl
  ihave HE := (of_eq eE) $$ HI
  unfold atEnd
  icases HE with ⟨⟨HI, Hd1, Hd2, ⟨%d3, Hd3⟩, ⟨%W', HW⟩⟩, ⟨%f1, Hr1⟩, Hrc1, ⟨%f0, Hr0⟩, Hrc0, Hxs, ⟨%fw, Hs⟩, ⟨%f2, Hw0⟩, Hwc0, Hos⟩
  have h4 := chk4_end
  have h5 := chk5_end
  have h31 : 31 < 33 := by omega
  sl_exec
  sl_step
  iapply Hk
  isplitl [HI]; · iexact HI
  isplitl [Hd1]; · iexists _; iexact Hd1
  isplitl [Hd2]; · iexists _; iexact Hd2
  isplitl [Hd3]; · iexists _; iexact Hd3
  isplitl [HW]; · iexists _; iexact HW
  isplitl [Hr0 Hr1 Hrc0 Hrc1 Hw0 Hs_src Hwc0 Hs]
  · isplitl [Hr0]; · iexists f0; iexact Hr0
    isplitl [Hr1]; · iexists f1; iexact Hr1
    isplitl [Hrc0]; · iexact Hrc0
    isplitl [Hrc1]; · iexact Hrc1
    isplitl [Hw0]; · iexists f2; iexact Hw0
    isplitl [Hs_src]; · iexists fw; iexact Hs_src
    isplitl [Hwc0]; · iexact Hwc0
    iexact Hs
  isplitl [Hxs]
  · iapply (of_eq (xset_all (xhome c I) 0 (by omega))); iexact Hxs
  iapply (of_eq (oset_end c I (zero1 c g1) (zero2 c g2) xo))
  isplitl [Hs_dst]; · iexact Hs_dst
  iexact Hos

end Body
end Cert.Proof.Ffn
end
-- ==== Proof.Launch.lean ====
module

public import proofs.«01_k».proof.Proof.Body
public import proofs.«01_k».proof.Proof.Gen.KernelIdeal.Frame

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The launch -/

section Launch
variable (m : (ℓ : Loc nD τ sig) → Buf (Elt F) ℓ) (ρ : Dev nD → PrngReg)

abbrev osem : Fin 4 → SemLoc sig := ![.dma (rsem 0).sem, .dma (rsem 1).sem, .dma (wsem 0).sem, .dma (wsem 1).sem]
theorem ownSemFacts : Pipeline.OwnSemFacts spec0 osem := by decide

/-! ### Element sets: the tiles of the two arrays, the slots of the two scoped buffers -/

abbrev BS (b : Fin 32) : Finset S16384x1024.Idx := (Rect.unit (s := S16384x1024) (blkOff b) S512x1024.size (blkOff_inb b)).set
abbrev SS (s : Fin 2) : Finset S2x512x1024.Idx := (Rect.unit (s := S2x512x1024) (slotOff s) S1x512x1024.size (slotOff_inb s)).set

theorem xblk_set (b : Fin 32) : (xblk b).view.set = BS b := View.set_slice_whole _ _
theorem oblk_set (b : Fin 32) : (oblk b).view.set = BS b := View.set_slice_whole _ _
theorem rslot_set (s : Fin 2) : (rslot s).view.set = SS s := (View.set_reshape _ _).trans (View.set_slice_whole _ _)
theorem wslot_set (s : Fin 2) : (wslot s).view.set = SS s := (View.set_reshape _ _).trans (View.set_slice_whole _ _)

theorem mem_BS (b : Fin 32) (y : S16384x1024.Idx) : y ∈ BS b ↔ (y 0).val / 512 = b.val := by
  rw [Rect.mem_set_unit]
  have h1 : (y 1).val < 1024 := (y 1).isLt
  constructor
  · intro H; have a0 : 512 * b.val ≤ (y 0).val ∧ (y 0).val < 512 * b.val + 512 := H 0; omega
  · intro H i; fin_cases i
    · show 512 * b.val ≤ (y 0).val ∧ (y 0).val < 512 * b.val + 512; omega
    · show 0 ≤ (y 1).val ∧ (y 1).val < 0 + 1024; omega
theorem mem_SS (s : Fin 2) (y : S2x512x1024.Idx) : y ∈ SS s ↔ (y 0).val = s.val := by
  rw [Rect.mem_set_unit]
  have h1 : (y 1).val < 512 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 1024; omega
theorem BS_disjoint : ∀ b b' : Fin 32, b ≠ b' → Disjoint (BS b) (BS b') := by
  intro b b' hne; rw [Finset.disjoint_left]; intro y hy hy'; rw [mem_BS] at hy hy'; exact hne (Fin.ext (hy.symm.trans hy'))
theorem BS_cover : (Finset.univ : Finset (Fin 32)).biUnion BS = Finset.univ := by
  ext y; simp only [Finset.mem_biUnion, Finset.mem_univ, true_and, iff_true]
  have h0 : (y 0).val < 16384 := (y 0).isLt
  exact ⟨⟨(y 0).val / 512, by omega⟩, by rw [mem_BS]⟩
theorem SS_disjoint : ∀ s s' : Fin 2, s ≠ s' → Disjoint (SS s) (SS s') := by
  intro s s' hne; rw [Finset.disjoint_left]; intro y hy hy'; rw [mem_SS] at hy hy'; exact hne (Fin.ext (hy.symm.trans hy'))
theorem SS_cover : (Finset.univ : Finset (Fin 2)).biUnion SS = Finset.univ := by
  ext y; simp only [Finset.mem_biUnion, Finset.mem_univ, true_and, iff_true]; exact ⟨⟨(y 0).val, (y 0).isLt⟩, by rw [mem_SS]⟩

theorem two_eq (Φ : Fin 2 → sProp 𝕄) : bigSep Finset.univ Φ = iprop(Φ 0 ∗ Φ 1) :=
  bigSep_univ_eq_bigSepL [(0 : Fin 2), (1 : Fin 2)] (by decide) (by decide) Φ
theorem four_eq (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

/-- An array whole is its tiles. -/
theorem x_eq (c : Dev nD) (I : Inp F c) : (((c : Thread nD τ).loc main_v0) ↦{fullShare} (I.x : Buf (Elt F) ((c : Thread nD τ).loc main_v0)) : sProp 𝕄) = bigSep Finset.univ (xhome c I) := by
  rw [Ring.pointsTo_blocks (ℓ := (c : Thread nD τ).loc main_v0) BS BS_disjoint BS_cover]
  exact BI.bigSep_congr fun b _ => by rw [← xblk_set]; rfl
theorem o_eq (c : Dev nD) (xo : Buf (Elt F) (oM.view.loc (c : Thread nD τ))) :
    (((c : Thread nD τ).loc main_v6) ↦{fullShare} (xo : Buf (Elt F) ((c : Thread nD τ).loc main_v6)) : sProp 𝕄) = bigSep Finset.univ (onew c xo) := by
  rw [Ring.pointsTo_blocks (ℓ := (c : Thread nD τ).loc main_v6) BS BS_disjoint BS_cover]
  exact BI.bigSep_congr fun b _ => by rw [← oblk_set]; rfl

/-- What the result array holds: each tile as its trip stored it. -/
def Holds (c : Dev nD) (I : Inp F c) (g1 : Buf (Elt F) (sM1.view.loc (c : Thread nD τ))) (g2 : Buf (Elt F) (sM2.view.loc (c : Thread nD τ)))
    (g : Buf (Elt F) (oM.view.loc (c : Thread nD τ))) : Prop :=
  ∀ b : Fin 32, (oblk b).view.read (Elt F) (g : Buf (Elt F) ((oblk b).view.loc (c : Thread nD τ))) = tile c I (zero1 c g1) (zero2 c g2) b

theorem o_join (c : Dev nD) (I : Inp F c) (g1 : Buf (Elt F) (sM1.view.loc (c : Thread nD τ))) (g2 : Buf (Elt F) (sM2.view.loc (c : Thread nD τ))) (xo : Buf (Elt F) (oM.view.loc (c : Thread nD τ))) :
    bigSep Finset.univ (odone c I (zero1 c g1) (zero2 c g2) xo)
      ⊢ (iprop(∃ g : Buf (Elt F) ((c : Thread nD τ).loc main_v6), ⌜Holds c I g1 g2 g⌝ ∗ ((c : Thread nD τ).loc main_v6) ↦{fullShare} g) : sProp 𝕄) := by
  have e : bigSep Finset.univ (odone c I (zero1 c g1) (zero2 c g2) xo)
      = bigSep Finset.univ (fun b => (((c : Thread nD τ).loc main_v6) ↦[BS b]{fullShare} (done c I (zero1 c g1) (zero2 c g2) xo b : Buf (Elt F) ((c : Thread nD τ).loc main_v6)) : sProp 𝕄)) :=
    BI.bigSep_congr fun b _ => by rw [← oblk_set]; rfl
  have J : (bigSep Finset.univ (fun b => (((c : Thread nD τ).loc main_v6) ↦[BS b]{fullShare} (done c I (zero1 c g1) (zero2 c g2) xo b : Buf (Elt F) ((c : Thread nD τ).loc main_v6)) : sProp 𝕄))) ⊢ _ :=
    pointsTo_biUnion_join (ℓ := (c : Thread nD τ).loc main_v6) (q := fullShare) Finset.univ BS
    (fun b => (done c I (zero1 c g1) (zero2 c g2) xo b : Buf (Elt F) ((c : Thread nD τ).loc main_v6))) (xo : Buf (Elt F) ((c : Thread nD τ).loc main_v6)) (fun b _ b' _ h => BS_disjoint b b' h)
  rw [BS_cover] at J
  rw [e]
  refine J.trans ?_
  iintro ⟨%g, %hg, H⟩
  iexists g
  isplitr
  · ipureintro
    intro b
    have hr : (oblk b).view.read (Elt F) (done c I (zero1 c g1) (zero2 c g2) xo b) = tile c I (zero1 c g1) (zero2 c g2) b :=
      funext fun j => by
        have := View.read_writes_cons_emb (oblk b).view (xo : Buf (Elt F) ((oblk b).view.loc (c : Thread nD τ))) (Rect.whole S512x1024) (tile c I (zero1 c g1) (zero2 c g2) b) [] j
        simpa using this
    rw [← hr]
    have hm : ∀ j, (oblk b).view.emb j ∈ BS b := fun j => by rw [← oblk_set]; exact (oblk b).view.emb_mem_set j
    exact funext fun j => congrArg (cast _) (hg b (Finset.mem_univ b) _ (hm j))
  · iexact H

theorem rslot_eq (c : Dev nD) (s : Fin 2) (f) : held c (rslot s) f = (((c : Thread nD τ).loc cc0_scoped0) ↦[SS s]{fullShare} f : sProp 𝕄) :=
  congrArg (fun S => (_ ↦[S]{fullShare} f : sProp 𝕄)) (rslot_set s)
theorem wslot_eq (c : Dev nD) (s : Fin 2) (f) : held c (wslot s) f = (((c : Thread nD τ).loc cc0_scoped2) ↦[SS s]{fullShare} f : sProp 𝕄) :=
  congrArg (fun S => (_ ↦[S]{fullShare} f : sProp 𝕄)) (wslot_set s)

theorem rbuf_split (c : Dev nD) (f : Buf (Elt F) ((c : Thread nD τ).loc cc0_scoped0)) :
    (((c : Thread nD τ).loc cc0_scoped0) ↦{fullShare} f : sProp 𝕄) ⊢ (iprop((∃ f, held c (rslot 0) f) ∗ ∃ f, held c (rslot 1) f) : sProp 𝕄) := by
  rw [Ring.pointsTo_blocks (ℓ := (c : Thread nD τ).loc cc0_scoped0) SS SS_disjoint SS_cover, two_eq]
  iintro ⟨H0, H1⟩
  isplitl [H0]
  · iexists f; iapply (of_eq (rslot_eq c 0 f).symm); iexact H0
  · iexists f; iapply (of_eq (rslot_eq c 1 f).symm); iexact H1
theorem wbuf_split (c : Dev nD) (f : Buf (Elt F) ((c : Thread nD τ).loc cc0_scoped2)) :
    (((c : Thread nD τ).loc cc0_scoped2) ↦{fullShare} f : sProp 𝕄) ⊢ (iprop((∃ f, held c (wslot 0) f) ∗ ∃ f, held c (wslot 1) f) : sProp 𝕄) := by
  rw [Ring.pointsTo_blocks (ℓ := (c : Thread nD τ).loc cc0_scoped2) SS SS_disjoint SS_cover, two_eq]
  iintro ⟨H0, H1⟩
  isplitl [H0]
  · iexists f; iapply (of_eq (wslot_eq c 0 f).symm); iexact H0
  · iexists f; iapply (of_eq (wslot_eq c 1 f).symm); iexact H1
theorem rbuf_join (c : Dev nD) :
    iprop((∃ f, held c (rslot 0) f) ∗ ∃ f, held c (rslot 1) f)
      ⊢ (iprop(∃ f : Buf (Elt F) ((c : Thread nD τ).loc cc0_scoped0), ((c : Thread nD τ).loc cc0_scoped0) ↦{fullShare} f) : sProp 𝕄) := by
  iintro ⟨⟨%f0, H0⟩, ⟨%f1, H1⟩⟩
  iapply (Ring.pointsTo_blocks_join_exists (ℓ := (c : Thread nD τ).loc cc0_scoped0) SS SS_disjoint SS_cover f0)
  irw [two_eq]
  isplitl [H0]
  · iexists f0; iapply (of_eq (rslot_eq c 0 f0)); iexact H0
  · iexists f1; iapply (of_eq (rslot_eq c 1 f1)); iexact H1
theorem wbuf_join (c : Dev nD) :
    iprop((∃ f, held c (wslot 0) f) ∗ ∃ f, held c (wslot 1) f)
      ⊢ (iprop(∃ f : Buf (Elt F) ((c : Thread nD τ).loc cc0_scoped2), ((c : Thread nD τ).loc cc0_scoped2) ↦{fullShare} f) : sProp 𝕄) := by
  iintro ⟨⟨%f0, H0⟩, ⟨%f1, H1⟩⟩
  iapply (Ring.pointsTo_blocks_join_exists (ℓ := (c : Thread nD τ).loc cc0_scoped2) SS SS_disjoint SS_cover f0)
  irw [two_eq]
  isplitl [H0]
  · iexists f0; iapply (of_eq (wslot_eq c 0 f0)); iexact H0
  · iexists f1; iapply (of_eq (wslot_eq c 1 f1)); iexact H1

theorem ownSems0_eq (c : Dev nD) : (Pipeline.ownSems0 (Ix := Unit) (Name := ℕ) (U := UU nD τ) (Lvl := ℕ) (Val := Elt F) (τ := τ) osem c : sProp 𝕄)
    = iprop(rcell c 0 ∗ rcell c 1 ∗ wcell c 0 ∗ wcell c 1) := by
  unfold Pipeline.ownSems0; rw [four_eq]; rfl

/-! ### The pipeline's data -/

/-- What the kernel reads at launch. -/
def inp (c : Dev nD) : Inp F c where
  x := V m c main_v0
  a1 := (Memref.whole cc0_stg0_0).view.rep (iblk m c 0 t0_0)
  a2 := (Memref.whole cc0_stg1_0).view.rep (iblk m c 1 t0_0)
  a3 := (Memref.whole cc0_stg2_0).view.rep (iblk m c 2 t0_0)
  a4 := (Memref.whole cc0_stg3_0).view.rep (iblk m c 3 t0_0)
  a5 := (Memref.whole cc0_stg4_0).view.rep (iblk m c 4 t0_0)
  a6 := (Memref.whole cc0_stg5_0).view.rep (iblk m c 5 t0_0)
  a7 := (Memref.whole cc0_stg6_0).view.rep (iblk m c 6 t0_0)
  a8 := (Memref.whole cc0_stg7_0).view.rep (iblk m c 7 t0_0)

abbrev anyScratch (c : Dev nD) : sProp 𝕄 :=
  iprop((∃ g, held c sM1 g) ∗ (∃ g, held c sM2 g) ∗ (∃ g, held c sM3 g) ∗ scratch c)

/-- Before the body: the input tiles, the result's tiles as launched, the scratch. -/
def Φin (c : Dev nD) : sProp 𝕄 :=
  iprop(bigSep Finset.univ (xhome c (inp m c)) ∗ bigSep Finset.univ (onew c (V m c main_v6)) ∗ anyScratch c)
/-- After it: the input tiles, the result holding every tile, the scratch. -/
def Φout (c : Dev nD) : sProp 𝕄 :=
  iprop(bigSep Finset.univ (xhome c (inp m c))
    ∗ (∃ g1 g2, ∃ g : Buf (Elt F) ((c : Thread nD τ).loc main_v6), ⌜Holds c (inp m c) g1 g2 g⌝ ∗ ((c : Thread nD τ).loc main_v6) ↦{fullShare} g) ∗ anyScratch c)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ t := if t.val = 0 then Φin m c else Φout m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem after_w0 (c : Dev nD) (t : Fin cfg0.N) : (dats m 0 c).after 0 t = iblk m c 0 t := by dsimp only [dats]
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w1 (c : Dev nD) (t : Fin cfg0.N) : (dats m 0 c).after 1 t = iblk m c 1 t := by dsimp only [dats]
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem after_w2 (c : Dev nD) (t : Fin cfg0.N) : (dats m 0 c).after 2 t = iblk m c 2 t := by dsimp only [dats]
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after_w3 (c : Dev nD) (t : Fin cfg0.N) : (dats m 0 c).after 3 t = iblk m c 3 t := by dsimp only [dats]
theorem before_w4 (c : Dev nD) (t : Fin cfg0.N) (d) : (dats m 0 c).before 4 t d = iblk m c 4 t := by
  unfold Dat.before; rw [if_pos (fetch0_4 t)]; unfold Dat.fetched Dat.blockOf iblk; dsimp only [dats]; rfl
theorem after_w4 (c : Dev nD) (t : Fin cfg0.N) : (dats m 0 c).after 4 t = iblk m c 4 t := by dsimp only [dats]
theorem before_w5 (c : Dev nD) (t : Fin cfg0.N) (d) : (dats m 0 c).before 5 t d = iblk m c 5 t := by
  unfold Dat.before; rw [if_pos (fetch0_5 t)]; unfold Dat.fetched Dat.blockOf iblk; dsimp only [dats]; rfl
theorem after_w5 (c : Dev nD) (t : Fin cfg0.N) : (dats m 0 c).after 5 t = iblk m c 5 t := by dsimp only [dats]
theorem before_w6 (c : Dev nD) (t : Fin cfg0.N) (d) : (dats m 0 c).before 6 t d = iblk m c 6 t := by
  unfold Dat.before; rw [if_pos (fetch0_6 t)]; unfold Dat.fetched Dat.blockOf iblk; dsimp only [dats]; rfl
theorem after_w6 (c : Dev nD) (t : Fin cfg0.N) : (dats m 0 c).after 6 t = iblk m c 6 t := by dsimp only [dats]
theorem before_w7 (c : Dev nD) (t : Fin cfg0.N) (d) : (dats m 0 c).before 7 t d = iblk m c 7 t := by
  unfold Dat.before; rw [if_pos (fetch0_7 t)]; unfold Dat.fetched Dat.blockOf iblk; dsimp only [dats]; rfl
theorem after_w7 (c : Dev nD) (t : Fin cfg0.N) : (dats m 0 c).after 7 t = iblk m c 7 t := by dsimp only [dats]

theorem defs_tc : (defs₀ (F := F)) .tc cfg0.body
    = fun a => cc0_convglu_ffn (F := F) xM (Memref.isWhole_whole _) (win0_0.stage (a.2 0)) (hstage0_0 0) (win0_1.stage (a.2 1)) (hstage0_1 0) (win0_2.stage (a.2 2)) (hstage0_2 0)
      (win0_3.stage (a.2 3)) (hstage0_3 0) (win0_4.stage (a.2 4)) (hstage0_4 0) (win0_5.stage (a.2 5)) (hstage0_5 0) (win0_6.stage (a.2 6)) (hstage0_6 0) (win0_7.stage (a.2 7)) (hstage0_7 0)
      oM (Memref.isWhole_whole _) (Memref.whole cc0_scratch0) (Memref.isWhole_whole _) (Memref.whole cc0_scratch1) (Memref.isWhole_whole _)
      (Memref.whole cc0_scratch2) (Memref.isWhole_whole _) rM (Memref.isWhole_whole _) cc0_scoped1 wM (Memref.isWhole_whole _) cc0_scoped3 := rfl
theorem prog_eq : (defs₀ (F := F)) .tc cfg0.body (cfg0.bodyArgs t0_0 (cfg0.slots t0_0)) = bodyG := (congrFun defs_tc _).trans rfl

theorem whole_eq (c : Dev nD) (b : Ref sig .tc) (f : Buf (Elt F) ((c : Thread nD τ).loc b)) :
    held c (Memref.whole b) f = (((c : Thread nD τ).loc b) ↦{fullShare} f : sProp 𝕄) :=
  congrArg (fun S => (((c : Thread nD τ).loc b) ↦[S]{fullShare} f : sProp 𝕄)) (View.set_whole _)

end Launch
end Cert.Proof.Ffn
end
-- ==== Proof.Run.lean ====
module

public import proofs.«01_k».proof.Proof.Launch

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The run -/

section Run
variable (m : (ℓ : Loc nD τ sig) → Buf (Elt F) ℓ) (ρ : Dev nD → PrngReg)

theorem owns_take (c : Dev nD) {sp : Space} {S : Shape} {e : EltTy} (M M' : Memref sig .tc sp S e) (h : M = M') (v : S.Idx → Elt F e) :
    (owns (c : Thread nD τ) M fullShare v : sProp 𝕄) ⊢ held c M' (M'.view.rep v) := by
  subst h
  unfold owns
  iintro ⟨%f, %e, A⟩
  ihave B := (pointsTo_rep_entails (c : Thread nD τ) M f fullShare) $$ A
  rw [e]
  iexact B
theorem owns_give (c : Dev nD) {sp : Space} {S : Shape} {e : EltTy} (M M' : Memref sig .tc sp S e) (h : M = M') (v : S.Idx → Elt F e) :
    held c M' (M'.view.rep v) ⊢ (owns (c : Thread nD τ) M fullShare v : sProp 𝕄) := by
  subst h
  unfold owns
  iintro A
  iexists _; isplitr; · ipureintro; exact View.read_rep _ _
  iexact A
theorem inp_a1 (c : Dev nD) : (inp m c).a1 = (Memref.whole cc0_stg0_0).view.rep (iblk m c 0 t0_0) := by dsimp only [inp]
theorem stage0 : st0_0 t0_0 = Memref.whole cc0_stg0_0 := rfl
theorem take0 (c : Dev nD) : (owns (c : Thread nD τ) (st0_0 t0_0) fullShare (iblk m c 0 t0_0) : sProp 𝕄) ⊢ held c (Memref.whole cc0_stg0_0) (inp m c).a1 := by
  rw [inp_a1]; exact owns_take c (st0_0 t0_0) (Memref.whole cc0_stg0_0) stage0 (iblk m c 0 t0_0)
theorem give0 (c : Dev nD) : held c (Memref.whole cc0_stg0_0) (inp m c).a1 ⊢ (owns (c : Thread nD τ) (st0_0 t0_0) fullShare (iblk m c 0 t0_0) : sProp 𝕄) := by
  rw [inp_a1]; exact owns_give c (st0_0 t0_0) (Memref.whole cc0_stg0_0) stage0 (iblk m c 0 t0_0)
theorem inp_a2 (c : Dev nD) : (inp m c).a2 = (Memref.whole cc0_stg1_0).view.rep (iblk m c 1 t0_0) := by dsimp only [inp]
theorem stage1 : st0_1 t0_0 = Memref.whole cc0_stg1_0 := rfl
theorem take1 (c : Dev nD) : (owns (c : Thread nD τ) (st0_1 t0_0) fullShare (iblk m c 1 t0_0) : sProp 𝕄) ⊢ held c (Memref.whole cc0_stg1_0) (inp m c).a2 := by
  rw [inp_a2]; exact owns_take c (st0_1 t0_0) (Memref.whole cc0_stg1_0) stage1 (iblk m c 1 t0_0)
theorem give1 (c : Dev nD) : held c (Memref.whole cc0_stg1_0) (inp m c).a2 ⊢ (owns (c : Thread nD τ) (st0_1 t0_0) fullShare (iblk m c 1 t0_0) : sProp 𝕄) := by
  rw [inp_a2]; exact owns_give c (st0_1 t0_0) (Memref.whole cc0_stg1_0) stage1 (iblk m c 1 t0_0)
theorem inp_a3 (c : Dev nD) : (inp m c).a3 = (Memref.whole cc0_stg2_0).view.rep (iblk m c 2 t0_0) := by dsimp only [inp]
theorem stage2 : st0_2 t0_0 = Memref.whole cc0_stg2_0 := rfl
theorem take2 (c : Dev nD) : (owns (c : Thread nD τ) (st0_2 t0_0) fullShare (iblk m c 2 t0_0) : sProp 𝕄) ⊢ held c (Memref.whole cc0_stg2_0) (inp m c).a3 := by
  rw [inp_a3]; exact owns_take c (st0_2 t0_0) (Memref.whole cc0_stg2_0) stage2 (iblk m c 2 t0_0)
theorem give2 (c : Dev nD) : held c (Memref.whole cc0_stg2_0) (inp m c).a3 ⊢ (owns (c : Thread nD τ) (st0_2 t0_0) fullShare (iblk m c 2 t0_0) : sProp 𝕄) := by
  rw [inp_a3]; exact owns_give c (st0_2 t0_0) (Memref.whole cc0_stg2_0) stage2 (iblk m c 2 t0_0)
theorem inp_a4 (c : Dev nD) : (inp m c).a4 = (Memref.whole cc0_stg3_0).view.rep (iblk m c 3 t0_0) := by dsimp only [inp]
theorem stage3 : st0_3 t0_0 = Memref.whole cc0_stg3_0 := rfl
theorem take3 (c : Dev nD) : (owns (c : Thread nD τ) (st0_3 t0_0) fullShare (iblk m c 3 t0_0) : sProp 𝕄) ⊢ held c (Memref.whole cc0_stg3_0) (inp m c).a4 := by
  rw [inp_a4]; exact owns_take c (st0_3 t0_0) (Memref.whole cc0_stg3_0) stage3 (iblk m c 3 t0_0)
theorem give3 (c : Dev nD) : held c (Memref.whole cc0_stg3_0) (inp m c).a4 ⊢ (owns (c : Thread nD τ) (st0_3 t0_0) fullShare (iblk m c 3 t0_0) : sProp 𝕄) := by
  rw [inp_a4]; exact owns_give c (st0_3 t0_0) (Memref.whole cc0_stg3_0) stage3 (iblk m c 3 t0_0)
theorem inp_a5 (c : Dev nD) : (inp m c).a5 = (Memref.whole cc0_stg4_0).view.rep (iblk m c 4 t0_0) := by dsimp only [inp]
theorem stage4 : st0_4 t0_0 = Memref.whole cc0_stg4_0 := rfl
theorem take4 (c : Dev nD) : (owns (c : Thread nD τ) (st0_4 t0_0) fullShare (iblk m c 4 t0_0) : sProp 𝕄) ⊢ held c (Memref.whole cc0_stg4_0) (inp m c).a5 := by
  rw [inp_a5]; exact owns_take c (st0_4 t0_0) (Memref.whole cc0_stg4_0) stage4 (iblk m c 4 t0_0)
theorem give4 (c : Dev nD) : held c (Memref.whole cc0_stg4_0) (inp m c).a5 ⊢ (owns (c : Thread nD τ) (st0_4 t0_0) fullShare (iblk m c 4 t0_0) : sProp 𝕄) := by
  rw [inp_a5]; exact owns_give c (st0_4 t0_0) (Memref.whole cc0_stg4_0) stage4 (iblk m c 4 t0_0)
theorem inp_a6 (c : Dev nD) : (inp m c).a6 = (Memref.whole cc0_stg5_0).view.rep (iblk m c 5 t0_0) := by dsimp only [inp]
theorem stage5 : st0_5 t0_0 = Memref.whole cc0_stg5_0 := rfl
theorem take5 (c : Dev nD) : (owns (c : Thread nD τ) (st0_5 t0_0) fullShare (iblk m c 5 t0_0) : sProp 𝕄) ⊢ held c (Memref.whole cc0_stg5_0) (inp m c).a6 := by
  rw [inp_a6]; exact owns_take c (st0_5 t0_0) (Memref.whole cc0_stg5_0) stage5 (iblk m c 5 t0_0)
theorem give5 (c : Dev nD) : held c (Memref.whole cc0_stg5_0) (inp m c).a6 ⊢ (owns (c : Thread nD τ) (st0_5 t0_0) fullShare (iblk m c 5 t0_0) : sProp 𝕄) := by
  rw [inp_a6]; exact owns_give c (st0_5 t0_0) (Memref.whole cc0_stg5_0) stage5 (iblk m c 5 t0_0)
theorem inp_a7 (c : Dev nD) : (inp m c).a7 = (Memref.whole cc0_stg6_0).view.rep (iblk m c 6 t0_0) := by dsimp only [inp]
theorem stage6 : st0_6 t0_0 = Memref.whole cc0_stg6_0 := rfl
theorem take6 (c : Dev nD) : (owns (c : Thread nD τ) (st0_6 t0_0) fullShare (iblk m c 6 t0_0) : sProp 𝕄) ⊢ held c (Memref.whole cc0_stg6_0) (inp m c).a7 := by
  rw [inp_a7]; exact owns_take c (st0_6 t0_0) (Memref.whole cc0_stg6_0) stage6 (iblk m c 6 t0_0)
theorem give6 (c : Dev nD) : held c (Memref.whole cc0_stg6_0) (inp m c).a7 ⊢ (owns (c : Thread nD τ) (st0_6 t0_0) fullShare (iblk m c 6 t0_0) : sProp 𝕄) := by
  rw [inp_a7]; exact owns_give c (st0_6 t0_0) (Memref.whole cc0_stg6_0) stage6 (iblk m c 6 t0_0)
theorem inp_a8 (c : Dev nD) : (inp m c).a8 = (Memref.whole cc0_stg7_0).view.rep (iblk m c 7 t0_0) := by dsimp only [inp]
theorem stage7 : st0_7 t0_0 = Memref.whole cc0_stg7_0 := rfl
theorem take7 (c : Dev nD) : (owns (c : Thread nD τ) (st0_7 t0_0) fullShare (iblk m c 7 t0_0) : sProp 𝕄) ⊢ held c (Memref.whole cc0_stg7_0) (inp m c).a8 := by
  rw [inp_a8]; exact owns_take c (st0_7 t0_0) (Memref.whole cc0_stg7_0) stage7 (iblk m c 7 t0_0)
theorem give7 (c : Dev nD) : held c (Memref.whole cc0_stg7_0) (inp m c).a8 ⊢ (owns (c : Thread nD τ) (st0_7 t0_0) fullShare (iblk m c 7 t0_0) : sProp 𝕄) := by
  rw [inp_a8]; exact owns_give c (st0_7 t0_0) (Memref.whole cc0_stg7_0) stage7 (iblk m c 7 t0_0)

set_option maxHeartbeats 2000000 in
set_option backward.isDefEq.respectTransparency.types false in
theorem body_obligation (c : Dev nD) : BodyObligation (dats (F := F) m 0 c) (defs₀ (F := F)) 𝒱₀ () Set.univ := fun t => by
  obtain rfl := fin_N0 t
  rw [bigSep_W0, bigSep_W0]
  dsimp only
  simp only [before_w0, before_w1, before_w2, before_w3, before_w4, before_w5, before_w6, before_w7, after_w0, after_w1, after_w2, after_w3, after_w4, after_w5, after_w6, after_w7]
  rw [show (dats m 0 c).Φ t0_0.castSucc = Φin m c from rfl, show (dats m 0 c).Φ t0_0.succ = Φout m c from rfl]
  unfold Dat.owesAt Pipeline.owesWithin
  rw [show (dats m 0 c).owed t0_0.castSucc = 0 from rfl, show (dats m 0 c).owed t0_0.succ = 0 from rfl]
  unfold Φin Φout
  iintro ⟨⟨HX, HO, ⟨%g1, H1⟩, ⟨%g2, H2⟩, ⟨%g3, H3⟩, HS⟩, ⟨%W, -, HW⟩, ⟨%d0, A0⟩, ⟨%d1, A1⟩, ⟨%d2, A2⟩, ⟨%d3, A3⟩, ⟨%d4, A4⟩, ⟨%d5, A5⟩, ⟨%d6, A6⟩, ⟨%d7, A7⟩⟩
  ihave B0 := (take0 m c) $$ A0
  ihave B1 := (take1 m c) $$ A1
  ihave B2 := (take2 m c) $$ A2
  ihave B3 := (take3 m c) $$ A3
  ihave B4 := (take4 m c) $$ A4
  ihave B5 := (take5 m c) $$ A5
  ihave B6 := (take6 m c) $$ A6
  ihave B7 := (take7 m c) $$ A7
  sl_rw [prog_eq]
  iapply (bodyRun c (inp m c) (V m c main_v6) g1 g2 g3 W)
  isplitl [B0 B1 B2 B3 B4 B5 B6 B7 H1 H2 H3 HW HS HX HO]
  · isplitl [B0 B1 B2 B3 B4 B5 B6 B7]
    · isplitl [B0]; · iexact B0
      isplitl [B1]; · iexact B1
      isplitl [B2]; · iexact B2
      isplitl [B3]; · iexact B3
      isplitl [B4]; · iexact B4
      isplitl [B5]; · iexact B5
      isplitl [B6]; · iexact B6
      iexact B7
    isplitl [H1]; · iexact H1
    isplitl [H2]; · iexact H2
    isplitl [H3]; · iexact H3
    isplitl [HW]; · iexact HW
    isplitl [HS]; · iexact HS
    isplitl [HX]; · iexact HX
    iexact HO
  · iintro ⟨⟨B0, B1, B2, B3, B4, B5, B6, B7⟩, H1, H2, H3, ⟨%W', HW⟩, HS, HX, HO⟩
    isplitl [H1 H2 H3 HS HX HO]
    · isplitl [HX]; · iexact HX
      isplitl [HO]
      · iexists g1; iexists g2; iapply (o_join c (inp m c) g1 g2 (V m c main_v6)); iexact HO
      isplitl [H1]; · iexact H1
      isplitl [H2]; · iexact H2
      isplitl [H3]; · iexact H3
      iexact HS
    isplitl [HW]
    · iexists W'; isplitr; · ipureintro; exact fun _ _ => Or.inl trivial
      iexact HW
    isplitl [B0]
    · iapply (give0 m c); iexact B0
    isplitl [B1]
    · iapply (give1 m c); iexact B1
    isplitl [B2]
    · iapply (give2 m c); iexact B2
    isplitl [B3]
    · iapply (give3 m c); iexact B3
    isplitl [B4]
    · iapply (give4 m c); iexact B4
    isplitl [B5]
    · iapply (give5 m c); iexact B5
    isplitl [B6]
    · iapply (give6 m c); iexact B6
    iapply (give7 m c); iexact B7

/-! ### The launch of the whole program -/

def intoΦ (c : Dev nD) : sProp 𝕄 :=
  iprop(bigSep Finset.univ (xhome c (inp m c)) ∗ bigSep Finset.univ (onew c (V m c main_v6)) ∗ Pipeline.ownSems0 osem c)
def outOfΦ (c : Dev nD) : sProp 𝕄 :=
  iprop(∃ g1 g2, ∃ g : Buf (Elt F) ((c : Thread nD τ).loc main_v6), ⌜Holds c (inp m c) g1 g2 g⌝ ∗ ((c : Thread nD τ).loc main_v6) ↦{fullShare} g)
def aside (c : Dev nD) : sProp 𝕄 :=
  iprop((((c : Thread nD τ).loc main_arg0) ↦{fullShare} V m c main_arg0) ∗ (((c : Thread nD τ).loc main_arg4) ↦{fullShare} V m c main_arg4)
    ∗ (((c : Thread nD τ).loc main_arg5) ↦{fullShare} V m c main_arg5) ∗ (((c : Thread nD τ).loc main_arg7) ↦{fullShare} V m c main_arg7))
def u₀ : UU nD τ := (initOf (Pipeline.cells cfgs Cert.KernelIdeal.Gen.cellOf_inj) (Pipeline.launchToks cfgs Cert.KernelIdeal.Gen.cellOf_inj), 1)
def finalA (c : Dev nD) (w : Fin cfg0.W) : Buf (Elt F) ((cfg0.win w).arr.view.loc (c : Thread nD τ)) := (dats m 0 c).arrAt w cfg0.N
/-- The result array's tiles as stored, from some contents of the two row buffers; the arguments no window has unchanged. -/
def QY (c : Dev nD) (s : MemSt nD τ sig (Elt F)) : Prop :=
  (∃ g1 g2, Holds c (inp m c) g1 g2 (s.mem ((c : Thread nD τ).loc main_v6)))
  ∧ s.mem ((c : Thread nD τ).loc main_arg0) = V m c main_arg0 ∧ s.mem ((c : Thread nD τ).loc main_arg4) = V m c main_arg4
  ∧ s.mem ((c : Thread nD τ).loc main_arg5) = V m c main_arg5 ∧ s.mem ((c : Thread nD τ).loc main_arg7) = V m c main_arg7
def QC : PUnit × MemSt nD τ sig (Elt F) → Prop := fun r =>
  ∀ c : Dev nD, (∀ w : Fin cfg0.W, r.2.mem ((cfg0.win w).arr.view.loc (c : Thread nD τ)) = finalA m c w) ∧ QY m c r.2

set_option maxHeartbeats 800000 in
theorem hmainU : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

theorem inp_x (c : Dev nD) : (inp m c).x = V m c main_v0 := by dsimp only [inp]

set_option maxHeartbeats 2000000 in
set_option backward.isDefEq.respectTransparency.types false in
/-- At the compiled mesh, for any float values, from any memory with zero counters: every weakly fair execution of @main
    on the TensorCores terminates, and every final state has the result's tiles as the trips stored them, the arguments
    unchanged, every semaphore counter at zero. -/
theorem run_main : θ_run defs (onTc (τ := τ) (main (F := F))) (⟨m, fun _ => 0, ρ⟩ : MemSt nD τ sig (Elt F)) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m) (hmain := hmainU m) (hA := fun _ _ => rfl)
    (X := intoΦ m) (Y := outOfΦ m) (Z := aside m)
    (hX := fun c => by
      rw [unscopedRest0_eq]
      unfold intoΦ aside; rw [← o_eq c (V m c main_v6), ← x_eq c (inp m c), inp_x]
      iintro ⟨HU, HS, -, -, -⟩
      icases HU with ⟨H0, H4, H5, H7, HX, -, -, HO⟩
      imodintro
      isplitl [HX HO HS]
      · isplitl [HX]; · iexact HX
        isplitl [HO]; · iexact HO
        iexact HS
      isplitl [H0]; · iexact H0
      isplitl [H4]; · iexact H4
      isplitl [H5]; · iexact H5
      iexact H7)
    (hin := fun c => by
      rw [scopedRest0_eq, show (dats m 0 c).Φ 0 = Φin m c from rfl]
      unfold intoΦ Φin; rw [ownSems0_eq]
      iintro ⟨⟨HX, HO, Hr0, Hr1, Hw0, Hw1⟩, ⟨⟨%g1, H1⟩, ⟨%g2, H2⟩, ⟨%g3, H3⟩, ⟨%f0, HR⟩, ⟨%f2, HWb⟩⟩⟩
      ihave Hr := (rbuf_split c f0) $$ HR
      ihave Hw := (wbuf_split c f2) $$ HWb
      icases Hr with ⟨Hra, Hrb⟩
      icases Hw with ⟨Hwa, Hwb⟩
      isplitl [HX]; · iexact HX
      isplitl [HO]; · iexact HO
      isplitl [H1]; · iexists g1; iapply (of_eq (whole_eq c cc0_scratch0 g1).symm); iexact H1
      isplitl [H2]; · iexists g2; iapply (of_eq (whole_eq c cc0_scratch1 g2).symm); iexact H2
      isplitl [H3]; · iexists g3; iapply (of_eq (whole_eq c cc0_scratch2 g3).symm); iexact H3
      isplitl [Hra]; · iexact Hra
      isplitl [Hrb]; · iexact Hrb
      isplitl [Hr0]; · iexact Hr0
      isplitl [Hr1]; · iexact Hr1
      isplitl [Hwa]; · iexact Hwa
      isplitl [Hwb]; · iexact Hwb
      isplitl [Hw0]; · iexact Hw0
      iexact Hw1)
    (hout := fun c => by
      rw [scopedRest0_eq, show (dats m 0 c).Φ (Fin.last cfg0.N) = Φout m c from rfl, ownSems0_eq]
      unfold Φout outOfΦ
      iintro ⟨HX, HO, ⟨%g1, H1⟩, ⟨%g2, H2⟩, ⟨%g3, H3⟩, Hra, Hrb, Hr0, Hr1, Hwa, Hwb, Hw0, Hw1⟩
      isplitl [HO]; · iexact HO
      isplitl [Hr0 Hr1 Hw0 Hw1]
      · isplitl [Hr0]; · iexact Hr0
        isplitl [Hr1]; · iexact Hr1
        isplitl [Hw0]; · iexact Hw0
        iexact Hw1
      isplitl [H1]; · iexists g1; iapply (of_eq (whole_eq c cc0_scratch0 g1)); iexact H1
      isplitl [H2]; · iexists g2; iapply (of_eq (whole_eq c cc0_scratch1 g2)); iexact H2
      isplitl [H3]; · iexists g3; iapply (of_eq (whole_eq c cc0_scratch2 g3)); iexact H3
      isplitl [Hra Hrb]
      · iapply (rbuf_join c)
        isplitl [Hra]; · iexact Hra
        iexact Hrb
      iapply (wbuf_join c)
      isplitl [Hwa]; · iexact Hwa
      iexact Hwb)
    (QY := QY m)
    (hY := fun c s' => by
      unfold outOfΦ aside
      iintro ⟨⟨%g1, %g2, %g, %hg, HO⟩, ⟨H0, H4, H5, H7⟩, HSI⟩
      icombine HSI HO gives %ho
      icombine HSI H0 gives %h0
      icombine HSI H4 gives %h4
      icombine HSI H5 gives %h5
      icombine HSI H7 gives %h7
      imodintro
      isplitr
      · ipureintro
        refine ⟨⟨g1, g2, ?_⟩, Buf.eq_of_forall_mem_univ h0, Buf.eq_of_forall_mem_univ h4, Buf.eq_of_forall_mem_univ h5, Buf.eq_of_forall_mem_univ h7⟩
        rw [Buf.eq_of_forall_mem_univ ho]; exact hg
      iexact HSI)
    (hQ := fun _ hh hz => ⟨hh, hz⟩)

theorem finalA_in (c : Dev nD) (w : Fin cfg0.W) (hw : (cfg0.win w).isOut = false) : finalA m c w = V m c (Pipeline.arrRef spec0 w) :=
  (dats (F := F) m 0 c).arrAt_in w hw _

/-- The run leaves the nine arguments as they were. -/
theorem args_kept (c : Dev nD) {r : PUnit × MemSt nD τ sig (Elt F)} (h : QC m r) :
    r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg8) = m ((c : Thread nD τ).loc main_arg8) :=
  ⟨(h c).2.2.1.trans (V_main_arg0 m c), ((h c).1 0).trans ((finalA_in m c 0 rfl).trans (V_main_arg1 m c)),
     ((h c).1 1).trans ((finalA_in m c 1 rfl).trans (V_main_arg2 m c)), ((h c).1 2).trans ((finalA_in m c 2 rfl).trans (V_main_arg3 m c)),
     (h c).2.2.2.1.trans (V_main_arg4 m c), (h c).2.2.2.2.1.trans (V_main_arg5 m c), ((h c).1 5).trans ((finalA_in m c 5 rfl).trans (V_main_arg6 m c)),
     (h c).2.2.2.2.2.trans (V_main_arg7 m c), ((h c).1 7).trans ((finalA_in m c 7 rfl).trans (V_main_arg8 m c))⟩

/-- The frame's post from the run's: the nine arguments unchanged, the counters at zero. -/
theorem run_frame : θ_run defs (onTc (τ := τ) (main (F := F))) (⟨m, fun _ => 0, ρ⟩ : MemSt nD τ sig (Elt F)) (fun r =>
    (∀ c : Dev nD, r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg8) = m ((c : Thread nD τ).loc main_arg8)) ∧ r.2.sem = fun _ => 0) :=
  (θ_run defs _ _).mono (fun _ h => ⟨fun c => args_kept m c h.1, h.2⟩) (run_main m ρ)

end Run
end Cert.Proof.Ffn
end
-- ==== Proof.Value1.lean ====
module

public import proofs.«01_k».proof.Proof.Run
public import Idealize.ShloMosaic.Lib.Pointwise

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The layer's rows as sums and products of extended reals -/

/-- The arrays the block reads, by row and column number. -/
structure Arr where
  X : ℕ → ℕ → EReal
  mod : ℕ → EReal
  fm : ℕ → EReal
  g : ℕ → EReal
  wu : ℕ → ℕ → EReal
  cw : ℕ → ℕ → EReal
  cb : ℕ → EReal
  wd : ℕ → ℕ → EReal
  gf : ℕ → EReal

namespace Arr
variable (D : Arr)

/-- One over the root of a row's mean square. -/
def inv (r : ℕ → EReal) : EReal :=
  Ideal.rsqrt (Ideal.div (∑ x : Fin 1024, r x * r x) (Ideal.ofBits FTy.f32 1149239296#32) + Ideal.ofBits FTy.f32 897988541#32)
/-- The normalised and modulated input row. -/
def hid (n d : ℕ) : EReal := D.X n d * inv (D.X n) * (D.g d * (1 + D.mod (1024 + d))) + D.mod d
/-- The up projection: the gate's half in the columns below 2816, the value's half above. -/
def up (n f : ℕ) : EReal := ∑ x : Fin 1024, D.hid n x * D.wu x f
/-- The projection `s` rows earlier, zero before the first row. -/
def past (n s f : ℕ) : EReal := if s ≤ n then D.up (n - s) f else 0
/-- The causal convolution over three rows. -/
def conv (n f : ℕ) : EReal := D.past n 2 f * D.cw 0 f + D.past n 1 f * D.cw 1 f + D.up n f * D.cw 2 f + D.cb f
def act (n f : ℕ) : EReal := D.conv n f * Ideal.logistic (D.conv n f) * D.up n (2816 + f)
/-- The residual row with the block's output added. -/
def res (n d : ℕ) : EReal := D.X n d + D.mod (2048 + d) * ∑ x : Fin 2816, D.act n x * D.wd x d
/-- The final norm of that row. -/
def out (n d : ℕ) : EReal := D.res n d * inv (D.res n) * (D.gf d * (1 + D.fm (1024 + d))) + D.fm d

theorem past_zero (n f : ℕ) : D.past n 0 f = D.up n f := by simp [past]
end Arr

/-! ## What the kernel reads -/

variable {c : Dev nD}

/-- The kernel's operands hold the arrays. -/
structure Reads (I : Inp Ideal c) (D : Arr) : Prop where
  x : ∀ i : S16384x1024.Idx, I.x i = D.X (i 0).val (i 1).val
  a1 : ∀ i : S1x3072.Idx, I.a1 i = D.mod (i 1).val
  a2 : ∀ i : S1x2048.Idx, I.a2 i = D.fm (i 1).val
  a3 : ∀ i : S1x1024.Idx, I.a3 i = D.g (i 1).val
  a4 : ∀ i : S1024x5632.Idx, I.a4 i = D.wu (i 0).val (i 1).val
  a5 : ∀ i : S3x2816.Idx, I.a5 i = D.cw (i 0).val (i 1).val
  a6 : ∀ i : S1x2816.Idx, I.a6 i = D.cb (i 1).val
  a7 : ∀ i : S2816x1024.Idx, I.a7 i = D.wd (i 0).val (i 1).val
  a8 : ∀ i : S1024.Idx, I.a8 i = D.gf (i 0).val

section Operands
variable {I : Inp Ideal c} {D : Arr} (R : Reads I D)
include R

theorem rd1 (o : ℕ) (inb) (d : Fin 1024) :
    View.readAt (Elt Ideal) (Memref.whole cc0_stg0_0).view (Rect.unit (s := S1x3072) ![0, o] S1x1024.size inb).toLoadRect I.a1 (ix2 0 d) = D.mod (o + d) :=
  (R.a1 _).trans (congrArg D.mod (show o + 1 * d.val = o + d.val by omega))
theorem rd2 (o : ℕ) (inb) (d : Fin 1024) :
    View.readAt (Elt Ideal) (Memref.whole cc0_stg1_0).view (Rect.unit (s := S1x2048) ![0, o] S1x1024.size inb).toLoadRect I.a2 (ix2 0 d) = D.fm (o + d) :=
  (R.a2 _).trans (congrArg D.fm (show o + 1 * d.val = o + d.val by omega))
theorem rd3 (inb) (d : Fin 1024) :
    View.readAt (Elt Ideal) (Memref.whole cc0_stg2_0).view (Rect.unit (s := S1x1024) ![0, 0] S1x1024.size inb).toLoadRect I.a3 (ix2 0 d) = D.g d :=
  (R.a3 _).trans (congrArg D.g (show 0 + 1 * d.val = d.val by omega))
theorem rd4 (o : ℕ) (inb) (x : Fin 1024) (q : Fin 256) :
    View.readAt (Elt Ideal) (Memref.whole cc0_stg3_0).view (Rect.unit (s := S1024x5632) ![0, o] S1024x256.size inb).toLoadRect I.a4 (ix2 x q) = D.wu x (o + q) :=
  (R.a4 _).trans (congrArg₂ D.wu (show 0 + 1 * x.val = x.val by omega) (show o + 1 * q.val = o + q.val by omega))
theorem rd5 (o : ℕ) (inb) (t : Fin 3) (q : Fin 256) :
    View.readAt (Elt Ideal) (Memref.whole cc0_stg4_0).view (Rect.unit (s := S3x2816) ![0, o] S3x256.size inb).toLoadRect I.a5 (ix2 t q) = D.cw t (o + q) :=
  (R.a5 _).trans (congrArg₂ D.cw (show 0 + 1 * t.val = t.val by omega) (show o + 1 * q.val = o + q.val by omega))
theorem rd6 (o : ℕ) (inb) (q : Fin 256) :
    View.readAt (Elt Ideal) (Memref.whole cc0_stg5_0).view (Rect.unit (s := S1x2816) ![0, o] S1x256.size inb).toLoadRect I.a6 (ix2 0 q) = D.cb (o + q) :=
  (R.a6 _).trans (congrArg D.cb (show o + 1 * q.val = o + q.val by omega))
theorem rd7 (inb) (x : Fin 2816) (d : Fin 1024) :
    View.readAt (Elt Ideal) (Memref.whole cc0_stg6_0).view (Rect.unit (s := S2816x1024) ![0, 0] S2816x1024.size inb).toLoadRect I.a7 (ix2 x d) = D.wd x d :=
  (R.a7 _).trans (congrArg₂ D.wd (show 0 + 1 * x.val = x.val by omega) (show 0 + 1 * d.val = d.val by omega))
theorem rd8 (inb) (d : Fin 1024) :
    View.readAt (Elt Ideal) (Memref.whole cc0_stg7_0).view (Rect.unit (s := S1024) ![0] S1024.size inb).toLoadRect I.a8 (ix1 d) = D.gf d :=
  (R.a8 _).trans (congrArg D.gf (show 0 + 1 * d.val = d.val by omega))

/-- Row `i` of the landed tile is row `512 k + i` of the input. -/
theorem tile_in (k : Fin k0_t1_loop.trips) (hq2) (i : Fin 512) (d : Fin 1024) :
    tripMid.sl.v119_r0 c I k hq2 (ix3 0 i d) = D.X (512 * k.val + i) d := by
  have hk : k.val < 32 := Nat.lt_of_lt_of_eq k.isLt trips_eq
  have e9 : k0_off9 (wd k.val) = slotOff (Ring.sl 2 k.val) := off9_eq k.val (by omega)
  have hb : (Ring.bk 32 k.val).val = k.val := Ring.bk_val hk
  have key : ∀ (b : Fin 32) (s : Fin 2) (f), (rslot s).view.read (Elt Ideal) ((rslot s).view.writes (Elt Ideal) f
      [⟨Rect.whole S512x1024, ReadAs.same.apply (View.read (Elt Ideal) (xblk b).view I.x)⟩]) (ix2 i d) = D.X (512 * b.val + i) d := by
    intro b s f
    have h := View.read_writes_cons_emb (v := (rslot s).view) (f := f) (Rect.whole S512x1024)
      (ReadAs.same.apply (View.read (Elt Ideal) (xblk b).view I.x)) [] (ix2 i d)
    rw [Rect.emb_whole_apply] at h
    refine h.trans ?_
    refine (R.x _).trans (congrArg₂ D.X (show 512 * b.val + 1 * i.val = _ by omega) (show 0 + 1 * d.val = _ by omega))
  rw [← hb]
  rw [← key (Ring.bk 32 k.val) (Ring.sl 2 k.val) (rslot (Ring.sl 2 k.val)).view.junk]
  unfold tripMid.sl.v119_r0
  generalize (rslot (Ring.sl 2 k.val)).view.writes (Elt Ideal) _ _ = W
  have hq : ∃ h, (Shape.reshapeEquiv (s := S1x512x1024) (s' := S512x1024) h) (ix2 i d) = ix3 0 i d := ⟨by decide, by pointwise⟩
  obtain ⟨hr, er⟩ := hq
  have hR : (rslot (Ring.sl 2 k.val)).view.read (Elt Ideal) W (ix2 i d)
      = W ((Rect.unit (s := S2x512x1024) (slotOff (Ring.sl 2 k.val)) S1x512x1024.size (slotOff_inb _)).emb ((Shape.reshapeEquiv (s := S1x512x1024) (s' := S512x1024) hr) (ix2 i d))) := rfl
  rw [hR, er]
  refine congrArg W (funext fun a => Fin.ext ?_)
  exact congrArg (fun o : Fin 3 → ℕ => o a + 1 * ((ix3 0 i d : S1x512x1024.Idx) a).val) e9
end Operands

end Cert.Proof.Ffn
end
-- ==== Proof.Value2.lean ====
module

public import proofs.«01_k».proof.Proof.Value1
public import Idealize.ShloMosaic.Lib.Pointwise

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The payloads at an index -/

section Payloads
variable (D : Arr) (n : ℕ)

theorem pay4_eq (i : Fin 512) (d : Fin 1024) (a b : Vec Ideal S1x1024 .f32) (x : Vec Ideal S1x512x1024 .f32) (g : Vec Ideal S1x1024 .f32)
    (ha : ∀ d : Fin 1024, a (ix2 0 d) = D.mod d) (hb : ∀ d : Fin 1024, b (ix2 0 d) = D.mod (1024 + d))
    (hx : ∀ d : Fin 1024, x (ix3 0 i d) = D.X n d) (hg : ∀ d : Fin 1024, g (ix2 0 d) = D.g d) :
    k0_pay4 a b x g (ix2 i d) = D.hid n d := by
  pointwise [k0_pay4, k0_pay3]
  simp only [ha, hb, hx, hg]
  rfl

theorem pay12_eq (i : Fin 512) (q : Fin 256) (o : ℕ) (h : FVec Ideal S512x1024 .bf16) (w : Vec Ideal S1024x256 .bf16)
    (hh : ∀ d : Fin 1024, h (ix2 i d) = D.hid n d) (hw : ∀ x : Fin 1024, w (ix2 x q) = D.wu x (o + q)) :
    k0_pay12 h w (ix2 i q) = D.up n (o + q) := by
  pointwise [k0_pay12]
  simp only [hh, hw]
  rfl

theorem pay15_eq (i : Fin 512) (q : Fin 256) (o : ℕ) (h : FVec Ideal S512x1024 .bf16) (w : Vec Ideal S1024x256 .bf16)
    (hh : ∀ d : Fin 1024, h (ix2 i d) = D.hid n d) (hw : ∀ x : Fin 1024, w (ix2 x q) = D.wu x (o + q)) :
    k0_pay15 h w (ix2 i q) = D.up n (o + q) := by
  pointwise [k0_pay15, k0_pay12]
  simp only [hh, hw]
  rfl

theorem pay11_eq (i : Fin 512) (q : Fin 256) (o : ℕ) (a v : FVec Ideal S512x256 .f32) (w : FVec Ideal S3x256 .f32) (y2 : Vec Ideal S512x256 .f32)
    (w0 : FVec Ideal S1x256 .f32) (y1 : Vec Ideal S512x256 .f32) (b : Vec Ideal S1x256 .f32)
    (ha : a (ix2 i q) = D.up n (o + q)) (hv : v (ix2 i q) = D.up n (2816 + o + q)) (hw : ∀ t : Fin 3, w (ix2 t q) = D.cw t (o + q))
    (h2 : y2 (ix2 i q) = D.past n 2 (o + q)) (hw0 : w0 (ix2 0 q) = D.cw 0 (o + q)) (h1 : y1 (ix2 i q) = D.past n 1 (o + q))
    (hb : b (ix2 0 q) = D.cb (o + q)) :
    k0_pay11 a v w y2 w0 y1 b (ix2 i q) = D.act n (o + q) := by
  pointwise [k0_pay11]
  simp only [ha, hv, hw, h2, hw0, h1, hb]
  rw [Nat.add_assoc]
  rfl

theorem pay83_eq (i : Fin 256) (d : Fin 1024) (gt : Vec Ideal S1x1024 .f32) (x : FVec Ideal S512x1024 .f32) (ac : Vec Ideal S256x2816 .bf16) (w : Vec Ideal S2816x1024 .bf16)
    (hg : ∀ d : Fin 1024, gt (ix2 0 d) = D.mod (2048 + d)) (hx : ∀ d : Fin 1024, x (ix2 ⟨i.val, by omega⟩ d) = D.X n d)
    (ha : ∀ f : Fin 2816, ac (ix2 i f) = D.act n f) (hw : ∀ (f : Fin 2816) (d : Fin 1024), w (ix2 f d) = D.wd f d) :
    k0_pay83 gt x ac w (ix2 i d) = D.res n d * Arr.inv (D.res n) := by
  pointwise [k0_pay83]
  simp only [hg, hx, ha, hw]
  rfl

theorem pay86_eq (i : Fin 256) (d : Fin 1024) (gt fb fs : Vec Ideal S1x1024 .f32) (x : FVec Ideal S512x1024 .f32) (ac : Vec Ideal S256x2816 .bf16)
    (w : Vec Ideal S2816x1024 .bf16) (gf : Vec Ideal S1024 .f32)
    (hg : ∀ d : Fin 1024, gt (ix2 0 d) = D.mod (2048 + d)) (hfb : ∀ d : Fin 1024, fb (ix2 0 d) = D.fm d)
    (hfs : ∀ d : Fin 1024, fs (ix2 0 d) = D.fm (1024 + d)) (hx : ∀ d : Fin 1024, x (ix2 ⟨256 + i.val, by omega⟩ d) = D.X n d)
    (ha : ∀ f : Fin 2816, ac (ix2 i f) = D.act n f) (hw : ∀ (f : Fin 2816) (d : Fin 1024), w (ix2 f d) = D.wd f d)
    (hgf : ∀ d : Fin 1024, gf (ix1 d) = D.gf d) :
    k0_pay86 gt fb fs x ac w gf (ix2 i d) = D.out n d := by
  pointwise [k0_pay86]
  simp only [hg, hfb, hfs, hx, ha, hw, hgf]
  rfl
end Payloads

/-! ## A trip: the columns of the up projection, 256 at a time -/

section Chunks
variable {c : Dev nD} {I : Inp Ideal c} {D : Arr} (R : Reads I D) (k : Fin k0_t1_loop.trips) (hq2 : k0_chk2 (wd k.val))
include R

theorem r_eq (d : Fin 1024) : tripMid.sl.r c I (ix2 0 d) = D.mod d := (rd1 R 0 _ d).trans (by rw [Nat.zero_add])
theorem r1_eq (d : Fin 1024) : tripMid.sl.r_1 c I (ix2 0 d) = D.mod (1024 + d) := rd1 R 1024 _ d
theorem r2_eq (d : Fin 1024) : tripMid.sl.r_2 c I (ix2 0 d) = D.mod (2048 + d) := rd1 R 2048 _ d
theorem r3_eq (d : Fin 1024) : tripMid.sl.r_3 c I (ix2 0 d) = D.fm d := (rd2 R 0 _ d).trans (by rw [Nat.zero_add])
theorem r4_eq (d : Fin 1024) : tripMid.sl.r_4 c I (ix2 0 d) = D.fm (1024 + d) := rd2 R 1024 _ d
theorem r5_eq (i : Fin 512) (d : Fin 1024) : tripMid.sl.r_5 c I k hq2 (ix2 i d) = D.X (512 * k.val + i) d := by
  rw [tripMid.sl.r_5]
  refine Eq.trans ?_ (tile_in R k hq2 i d)
  pointwise [k0_pay3]
theorem r6_eq (i : Fin 512) (d : Fin 1024) : tripMid.sl.r_6 c I k hq2 (ix2 i d) = D.hid (512 * k.val + i) d := by
  rw [tripMid.sl.r_6]
  exact pay4_eq D _ i d _ _ _ _ (r_eq R) (r1_eq R) (tile_in R k hq2 i) (rd3 R _)

theorem a_eq_0 (i : Fin 512) (q : Fin 256) : tripMid.sl.r_7 c I k hq2 (ix2 i q) = D.up (512 * k.val + i) (0 + q) :=
  pay12_eq D _ i q 0 (tripMid.sl.r_6 c I k hq2) _ (r6_eq R k hq2 i) (fun x => rd4 R 0 _ x q)
theorem v_eq_0 (i : Fin 512) (q : Fin 256) : tripMid.sl.r_8 c I k hq2 (ix2 i q) = D.up (512 * k.val + i) (2816 + 0 + q) :=
  pay12_eq D _ i q 2816 (tripMid.sl.r_6 c I k hq2) _ (r6_eq R k hq2 i) (fun x => rd4 R 2816 _ x q)
theorem w_eq_0 (t : Fin 3) (q : Fin 256) : tripMid.sl.r_9 c I (ix2 t q) = D.cw t (0 + q) := by
  rw [tripMid.sl.r_9]
  refine Eq.trans ?_ (rd5 R 0 inb_S3x2816_S3x256_0_0 t q)
  pointwise [k0_pay7]
theorem w0_eq_0 (q : Fin 256) : tripMid.sl.r_10 c I (ix2 0 q) = D.cw 0 (0 + q) := by
  rw [tripMid.sl.r_10]
  refine Eq.trans ?_ (rd5 R 0 inb_S3x2816_S3x256_0_0 0 q)
  pointwise [k0_pay10, k0_pay7]

theorem a_eq_1 (i : Fin 512) (q : Fin 256) : tripMid.sl.r_11 c I k hq2 (ix2 i q) = D.up (512 * k.val + i) (256 + q) :=
  pay12_eq D _ i q 256 (tripMid.sl.r_6 c I k hq2) _ (r6_eq R k hq2 i) (fun x => rd4 R 256 _ x q)
theorem v_eq_1 (i : Fin 512) (q : Fin 256) : tripMid.sl.r_12 c I k hq2 (ix2 i q) = D.up (512 * k.val + i) (2816 + 256 + q) :=
  pay12_eq D _ i q 3072 (tripMid.sl.r_6 c I k hq2) _ (r6_eq R k hq2 i) (fun x => rd4 R 3072 _ x q)
theorem w_eq_1 (t : Fin 3) (q : Fin 256) : tripMid.sl.r_13 c I (ix2 t q) = D.cw t (256 + q) := by
  rw [tripMid.sl.r_13]
  refine Eq.trans ?_ (rd5 R 256 inb_S3x2816_S3x256_0_256 t q)
  pointwise [k0_pay14]
theorem w0_eq_1 (q : Fin 256) : tripMid.sl.r_14 c I (ix2 0 q) = D.cw 0 (256 + q) := by
  rw [tripMid.sl.r_14]
  refine Eq.trans ?_ (rd5 R 256 inb_S3x2816_S3x256_0_256 0 q)
  pointwise [k0_pay17, k0_pay14]

theorem a_eq_2 (i : Fin 512) (q : Fin 256) : tripMid.sl.r_15 c I k hq2 (ix2 i q) = D.up (512 * k.val + i) (512 + q) :=
  pay12_eq D _ i q 512 (tripMid.sl.r_6 c I k hq2) _ (r6_eq R k hq2 i) (fun x => rd4 R 512 _ x q)
theorem v_eq_2 (i : Fin 512) (q : Fin 256) : tripMid.sl.r_16 c I k hq2 (ix2 i q) = D.up (512 * k.val + i) (2816 + 512 + q) :=
  pay12_eq D _ i q 3328 (tripMid.sl.r_6 c I k hq2) _ (r6_eq R k hq2 i) (fun x => rd4 R 3328 _ x q)
theorem w_eq_2 (t : Fin 3) (q : Fin 256) : tripMid.sl.r_17 c I (ix2 t q) = D.cw t (512 + q) := by
  rw [tripMid.sl.r_17]
  refine Eq.trans ?_ (rd5 R 512 inb_S3x2816_S3x256_0_512 t q)
  pointwise [k0_pay21]
theorem w0_eq_2 (q : Fin 256) : tripMid.sl.r_18 c I (ix2 0 q) = D.cw 0 (512 + q) := by
  rw [tripMid.sl.r_18]
  refine Eq.trans ?_ (rd5 R 512 inb_S3x2816_S3x256_0_512 0 q)
  pointwise [k0_pay24, k0_pay21]

theorem a_eq_3 (i : Fin 512) (q : Fin 256) : tripMid.sl.r_19 c I k hq2 (ix2 i q) = D.up (512 * k.val + i) (768 + q) :=
  pay12_eq D _ i q 768 (tripMid.sl.r_6 c I k hq2) _ (r6_eq R k hq2 i) (fun x => rd4 R 768 _ x q)
theorem v_eq_3 (i : Fin 512) (q : Fin 256) : tripMid.sl.r_20 c I k hq2 (ix2 i q) = D.up (512 * k.val + i) (2816 + 768 + q) :=
  pay12_eq D _ i q 3584 (tripMid.sl.r_6 c I k hq2) _ (r6_eq R k hq2 i) (fun x => rd4 R 3584 _ x q)
theorem w_eq_3 (t : Fin 3) (q : Fin 256) : tripMid.sl.r_21 c I (ix2 t q) = D.cw t (768 + q) := by
  rw [tripMid.sl.r_21]
  refine Eq.trans ?_ (rd5 R 768 inb_S3x2816_S3x256_0_768 t q)
  pointwise [k0_pay28]
theorem w0_eq_3 (q : Fin 256) : tripMid.sl.r_22 c I (ix2 0 q) = D.cw 0 (768 + q) := by
  rw [tripMid.sl.r_22]
  refine Eq.trans ?_ (rd5 R 768 inb_S3x2816_S3x256_0_768 0 q)
  pointwise [k0_pay31, k0_pay28]

theorem a_eq_4 (i : Fin 512) (q : Fin 256) : tripMid.sl.r_23 c I k hq2 (ix2 i q) = D.up (512 * k.val + i) (1024 + q) :=
  pay12_eq D _ i q 1024 (tripMid.sl.r_6 c I k hq2) _ (r6_eq R k hq2 i) (fun x => rd4 R 1024 _ x q)
theorem v_eq_4 (i : Fin 512) (q : Fin 256) : tripMid.sl.r_24 c I k hq2 (ix2 i q) = D.up (512 * k.val + i) (2816 + 1024 + q) :=
  pay12_eq D _ i q 3840 (tripMid.sl.r_6 c I k hq2) _ (r6_eq R k hq2 i) (fun x => rd4 R 3840 _ x q)
theorem w_eq_4 (t : Fin 3) (q : Fin 256) : tripMid.sl.r_25 c I (ix2 t q) = D.cw t (1024 + q) := by
  rw [tripMid.sl.r_25]
  refine Eq.trans ?_ (rd5 R 1024 inb_S3x2816_S3x256_0_1024 t q)
  pointwise [k0_pay35]
theorem w0_eq_4 (q : Fin 256) : tripMid.sl.r_26 c I (ix2 0 q) = D.cw 0 (1024 + q) := by
  rw [tripMid.sl.r_26]
  refine Eq.trans ?_ (rd5 R 1024 inb_S3x2816_S3x256_0_1024 0 q)
  pointwise [k0_pay38, k0_pay35]

theorem a_eq_5 (i : Fin 512) (q : Fin 256) : tripMid.sl.r_27 c I k hq2 (ix2 i q) = D.up (512 * k.val + i) (1280 + q) :=
  pay12_eq D _ i q 1280 (tripMid.sl.r_6 c I k hq2) _ (r6_eq R k hq2 i) (fun x => rd4 R 1280 _ x q)
theorem v_eq_5 (i : Fin 512) (q : Fin 256) : tripMid.sl.r_28 c I k hq2 (ix2 i q) = D.up (512 * k.val + i) (2816 + 1280 + q) :=
  pay12_eq D _ i q 4096 (tripMid.sl.r_6 c I k hq2) _ (r6_eq R k hq2 i) (fun x => rd4 R 4096 _ x q)
theorem w_eq_5 (t : Fin 3) (q : Fin 256) : tripMid.sl.r_29 c I (ix2 t q) = D.cw t (1280 + q) := by
  rw [tripMid.sl.r_29]
  refine Eq.trans ?_ (rd5 R 1280 inb_S3x2816_S3x256_0_1280 t q)
  pointwise [k0_pay42]
theorem w0_eq_5 (q : Fin 256) : tripMid.sl.r_30 c I (ix2 0 q) = D.cw 0 (1280 + q) := by
  rw [tripMid.sl.r_30]
  refine Eq.trans ?_ (rd5 R 1280 inb_S3x2816_S3x256_0_1280 0 q)
  pointwise [k0_pay45, k0_pay42]

theorem a_eq_6 (i : Fin 512) (q : Fin 256) : tripMid.sl.r_31 c I k hq2 (ix2 i q) = D.up (512 * k.val + i) (1536 + q) :=
  pay12_eq D _ i q 1536 (tripMid.sl.r_6 c I k hq2) _ (r6_eq R k hq2 i) (fun x => rd4 R 1536 _ x q)
theorem v_eq_6 (i : Fin 512) (q : Fin 256) : tripMid.sl.r_32 c I k hq2 (ix2 i q) = D.up (512 * k.val + i) (2816 + 1536 + q) :=
  pay12_eq D _ i q 4352 (tripMid.sl.r_6 c I k hq2) _ (r6_eq R k hq2 i) (fun x => rd4 R 4352 _ x q)
theorem w_eq_6 (t : Fin 3) (q : Fin 256) : tripMid.sl.r_33 c I (ix2 t q) = D.cw t (1536 + q) := by
  rw [tripMid.sl.r_33]
  refine Eq.trans ?_ (rd5 R 1536 inb_S3x2816_S3x256_0_1536 t q)
  pointwise [k0_pay49]
theorem w0_eq_6 (q : Fin 256) : tripMid.sl.r_34 c I (ix2 0 q) = D.cw 0 (1536 + q) := by
  rw [tripMid.sl.r_34]
  refine Eq.trans ?_ (rd5 R 1536 inb_S3x2816_S3x256_0_1536 0 q)
  pointwise [k0_pay52, k0_pay49]

theorem a_eq_7 (i : Fin 512) (q : Fin 256) : tripMid.sl.r_35 c I k hq2 (ix2 i q) = D.up (512 * k.val + i) (1792 + q) :=
  pay12_eq D _ i q 1792 (tripMid.sl.r_6 c I k hq2) _ (r6_eq R k hq2 i) (fun x => rd4 R 1792 _ x q)
theorem v_eq_7 (i : Fin 512) (q : Fin 256) : tripMid.sl.r_36 c I k hq2 (ix2 i q) = D.up (512 * k.val + i) (2816 + 1792 + q) :=
  pay12_eq D _ i q 4608 (tripMid.sl.r_6 c I k hq2) _ (r6_eq R k hq2 i) (fun x => rd4 R 4608 _ x q)
theorem w_eq_7 (t : Fin 3) (q : Fin 256) : tripMid.sl.r_37 c I (ix2 t q) = D.cw t (1792 + q) := by
  rw [tripMid.sl.r_37]
  refine Eq.trans ?_ (rd5 R 1792 inb_S3x2816_S3x256_0_1792 t q)
  pointwise [k0_pay56]
theorem w0_eq_7 (q : Fin 256) : tripMid.sl.r_38 c I (ix2 0 q) = D.cw 0 (1792 + q) := by
  rw [tripMid.sl.r_38]
  refine Eq.trans ?_ (rd5 R 1792 inb_S3x2816_S3x256_0_1792 0 q)
  pointwise [k0_pay59, k0_pay56]

theorem a_eq_8 (i : Fin 512) (q : Fin 256) : tripMid.sl.r_39 c I k hq2 (ix2 i q) = D.up (512 * k.val + i) (2048 + q) :=
  pay12_eq D _ i q 2048 (tripMid.sl.r_6 c I k hq2) _ (r6_eq R k hq2 i) (fun x => rd4 R 2048 _ x q)
theorem v_eq_8 (i : Fin 512) (q : Fin 256) : tripMid.sl.r_40 c I k hq2 (ix2 i q) = D.up (512 * k.val + i) (2816 + 2048 + q) :=
  pay12_eq D _ i q 4864 (tripMid.sl.r_6 c I k hq2) _ (r6_eq R k hq2 i) (fun x => rd4 R 4864 _ x q)
theorem w_eq_8 (t : Fin 3) (q : Fin 256) : tripMid.sl.r_41 c I (ix2 t q) = D.cw t (2048 + q) := by
  rw [tripMid.sl.r_41]
  refine Eq.trans ?_ (rd5 R 2048 inb_S3x2816_S3x256_0_2048 t q)
  pointwise [k0_pay63]
theorem w0_eq_8 (q : Fin 256) : tripMid.sl.r_42 c I (ix2 0 q) = D.cw 0 (2048 + q) := by
  rw [tripMid.sl.r_42]
  refine Eq.trans ?_ (rd5 R 2048 inb_S3x2816_S3x256_0_2048 0 q)
  pointwise [k0_pay66, k0_pay63]

theorem a_eq_9 (i : Fin 512) (q : Fin 256) : tripMid.sl.r_43 c I k hq2 (ix2 i q) = D.up (512 * k.val + i) (2304 + q) :=
  pay12_eq D _ i q 2304 (tripMid.sl.r_6 c I k hq2) _ (r6_eq R k hq2 i) (fun x => rd4 R 2304 _ x q)
theorem v_eq_9 (i : Fin 512) (q : Fin 256) : tripMid.sl.r_44 c I k hq2 (ix2 i q) = D.up (512 * k.val + i) (2816 + 2304 + q) :=
  pay12_eq D _ i q 5120 (tripMid.sl.r_6 c I k hq2) _ (r6_eq R k hq2 i) (fun x => rd4 R 5120 _ x q)
theorem w_eq_9 (t : Fin 3) (q : Fin 256) : tripMid.sl.r_45 c I (ix2 t q) = D.cw t (2304 + q) := by
  rw [tripMid.sl.r_45]
  refine Eq.trans ?_ (rd5 R 2304 inb_S3x2816_S3x256_0_2304 t q)
  pointwise [k0_pay70]
theorem w0_eq_9 (q : Fin 256) : tripMid.sl.r_46 c I (ix2 0 q) = D.cw 0 (2304 + q) := by
  rw [tripMid.sl.r_46]
  refine Eq.trans ?_ (rd5 R 2304 inb_S3x2816_S3x256_0_2304 0 q)
  pointwise [k0_pay73, k0_pay70]

theorem a_eq_10 (i : Fin 512) (q : Fin 256) : tripMid.sl.r_47 c I k hq2 (ix2 i q) = D.up (512 * k.val + i) (2560 + q) :=
  pay12_eq D _ i q 2560 (tripMid.sl.r_6 c I k hq2) _ (r6_eq R k hq2 i) (fun x => rd4 R 2560 _ x q)
theorem v_eq_10 (i : Fin 512) (q : Fin 256) : tripMid.sl.r_48 c I k hq2 (ix2 i q) = D.up (512 * k.val + i) (2816 + 2560 + q) :=
  pay12_eq D _ i q 5376 (tripMid.sl.r_6 c I k hq2) _ (r6_eq R k hq2 i) (fun x => rd4 R 5376 _ x q)
theorem w_eq_10 (t : Fin 3) (q : Fin 256) : tripMid.sl.r_49 c I (ix2 t q) = D.cw t (2560 + q) := by
  rw [tripMid.sl.r_49]
  refine Eq.trans ?_ (rd5 R 2560 inb_S3x2816_S3x256_0_2560 t q)
  pointwise [k0_pay77]
theorem w0_eq_10 (q : Fin 256) : tripMid.sl.r_50 c I (ix2 0 q) = D.cw 0 (2560 + q) := by
  rw [tripMid.sl.r_50]
  refine Eq.trans ?_ (rd5 R 2560 inb_S3x2816_S3x256_0_2560 0 q)
  pointwise [k0_pay80, k0_pay77]

end Chunks

end Cert.Proof.Ffn
end
-- ==== Proof.Value3.lean ====
module

public import proofs.«01_k».proof.Proof.Value2
public import Idealize.ShloMosaic.Lib.WritesUnit
public import Idealize.ShloMosaic.Lib.Pointwise

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## A stored block of 256 columns, read back or passed by -/

theorem read_step {sig : RefSig} {κ : Kind} {sp : Space} {A B : ℕ} {e : EltTy} (v : View sig κ sp (⟨2, ![A, B]⟩ : Shape) e) (f : v.ty.Contents (Elt Ideal))
    (r o a b : ℕ) (inb : ∀ x, (![r, o] : Fin 2 → ℕ) x + (![a, b] : Fin 2 → ℕ) x ≤ (⟨2, ![A, B]⟩ : Shape).size x)
    (w : (⟨2, ![a, b]⟩ : Shape).Idx → Elt Ideal e) (L : List (View.Piece (Elt Ideal) (⟨2, ![A, B]⟩ : Shape) e)) (y0 : Fin A) (y1 : Fin B) (val : Elt Ideal e)
    (hin : ∀ (i : Fin a) (q : Fin b), y0.val = r + i.val → y1.val = o + q.val → w (ix2 i q) = val)
    (hout : ¬ ((r ≤ y0.val ∧ y0.val < r + a) ∧ (o ≤ y1.val ∧ y1.val < o + b)) → v.read (Elt Ideal) (v.writes (Elt Ideal) f L) (ix2 y0 y1) = val) :
    v.read (Elt Ideal) (v.writes (Elt Ideal) f ((⟨Rect.unit (s := (⟨2, ![A, B]⟩ : Shape)) ![r, o] ![a, b] inb, w⟩ : View.Piece (Elt Ideal) (⟨2, ![A, B]⟩ : Shape) e) :: L)) (ix2 y0 y1) = val := by
  by_cases h : (r ≤ y0.val ∧ y0.val < r + a) ∧ (o ≤ y1.val ∧ y1.val < o + b)
  · obtain ⟨⟨h1, h2⟩, h3, h4⟩ := h
    refine (View.read_writes_cons_unit_of_mem (off' := ![r, o]) (v := v) (f := f) inb w L (ix2 y0 y1) (ix2 (⟨y0.val - r, by omega⟩ : Fin a) (⟨y1.val - o, by omega⟩ : Fin b)) rfl ?_).trans
      (hin _ _ (by show y0.val = r + (y0.val - r); omega) (by show y1.val = o + (y1.val - o); omega))
    intro x
    fin_cases x
    · show y0.val = r + (y0.val - r); omega
    · show y1.val = o + (y1.val - o); omega
  · by_cases h0 : r ≤ y0.val ∧ y0.val < r + a
    · exact (View.read_writes_cons_unit_of_not_mem (off' := ![r, o]) (v := v) (f := f) inb w L (ix2 y0 y1) rfl 1
        (by show y1.val < o ∨ o + b ≤ y1.val; by_contra hh; exact h ⟨h0, by omega⟩)).trans (hout h)
    · exact (View.read_writes_cons_unit_of_not_mem (off' := ![r, o]) (v := v) (f := f) inb w L (ix2 y0 y1) rfl 0
        (by show y0.val < r ∨ r + a ≤ y0.val; omega)).trans (hout h)

theorem past_up (D : Arr) (n s m f : ℕ) (h : n = m + s) : D.past n s f = D.up m f := by
  subst h; unfold Arr.past; rw [if_pos (by omega), Nat.add_sub_cancel]

theorem past_shift (D : Arr) (n f : ℕ) : D.past (n + 1) 2 f = D.past n 1 f := by
  unfold Arr.past
  by_cases h : 1 ≤ n
  · rw [if_pos (by omega), if_pos h, show n + 1 - 2 = n - 1 from by omega]
  · rw [if_neg (by omega), if_neg h]

/-- What the row buffers carry into trip `k`: the projection of the two rows before it. -/
structure Carry {c : Dev nD} (D : Arr) (k : ℕ) (d1 : Buf (Elt Ideal) (sM1.view.loc (c : Thread nD τ))) (d2 : Buf (Elt Ideal) (sM2.view.loc (c : Thread nD τ))) : Prop where
  one : ∀ q : Fin 2816, sM1.view.read (Elt Ideal) d1 (ix2 520 q) = D.past (512 * k) 1 q
  two : ∀ q : Fin 2816, sM2.view.read (Elt Ideal) d2 (ix2 520 q) = D.past (512 * k) 2 q
  two' : ∀ q : Fin 2816, sM2.view.read (Elt Ideal) d2 (ix2 521 q) = D.past (512 * k + 1) 2 q

section Rows
variable {c : Dev nD} {I : Inp Ideal c} {D : Arr} (R : Reads I D) (k : Fin k0_t1_loop.trips) (hq2 : k0_chk2 (wd k.val))
variable {d1 : Buf (Elt Ideal) (sM1.view.loc (c : Thread nD τ))} {d2 : Buf (Elt Ideal) (sM2.view.loc (c : Thread nD τ))} (C : Carry D k.val d1 d2)

theorem carry1_eq (a : Fin 8) (q : Fin 2816) : tripMid.sl.v108_r0 c d1 (ix2 a q) = sM1.view.read (Elt Ideal) d1 (ix2 ⟨520 + a.val, by omega⟩ q) := by
  unfold tripMid.sl.v108_r0
  pointwise
  refine congrArg (sM1.view.read (Elt Ideal) d1) (funext fun x => Fin.ext ?_)
  fin_cases x
  · show 520 + 1 * a.val = 520 + a.val; omega
  · show 0 + 1 * q.val = q.val; omega
theorem carry2_eq (a : Fin 8) (q : Fin 2816) : tripMid.sl.v112_r0 c d2 (ix2 a q) = sM2.view.read (Elt Ideal) d2 (ix2 ⟨520 + a.val, by omega⟩ q) := by
  unfold tripMid.sl.v112_r0
  pointwise
  refine congrArg (sM2.view.read (Elt Ideal) d2) (funext fun x => Fin.ext ?_)
  fin_cases x
  · show 520 + 1 * a.val = 520 + a.val; omega
  · show 0 + 1 * q.val = q.val; omega

include R C

theorem rows1_0 (f) (y0 : Fin 528) (y1 : Fin 2816) (h : y0.val = 8 ∨ (9 ≤ y0.val ∧ y0.val < 521 ∧ y1.val < 256)) :
    sM1.view.read (Elt Ideal) (sM1.view.writes (Elt Ideal) f (tripMid.sl.Hd1_2 c I k hq2 d1)) (ix2 y0 y1) = D.past (512 * k.val + (y0.val - 8)) 1 y1.val := by
  rw [tripMid.sl.Hd1_2]
  refine read_step sM1.view f 9 0 512 256 inb_S528x2816_S512x256_9_0 _ _ y0 y1 _ (fun i q h0 h1 => ?_) (fun hn => ?_)
  · rw [past_up D _ _ (512 * k.val + i.val) _ (by omega), h1]
    exact pay15_eq D _ i q 0 (tripMid.sl.r_6 c I k hq2) _ (r6_eq R k hq2 i) (fun x => rd4 R 0 _ x q)
  · have h8 : y0.val = 8 := by omega
    refine read_step sM1.view f 8 0 8 2816 _ _ _ y0 y1 _ (fun i q h0 h1 => ?_) (fun hn => absurd ⟨⟨by omega, by omega⟩, by omega, by omega⟩ hn)
    obtain rfl : i = 0 := Fin.ext (by show i.val = 0; omega)
    rw [carry1_eq, show y1.val = q.val from by omega, show 512 * k.val + (y0.val - 8) = 512 * k.val from by omega]
    exact C.one q

theorem rows2_0 (f) (y0 : Fin 528) (y1 : Fin 2816) (h : (8 ≤ y0.val ∧ y0.val < 10) ∨ (10 ≤ y0.val ∧ y0.val < 522 ∧ y1.val < 256)) :
    sM2.view.read (Elt Ideal) (sM2.view.writes (Elt Ideal) f (tripMid.sl.Hd2_2 c I k hq2 d2)) (ix2 y0 y1) = D.past (512 * k.val + (y0.val - 8)) 2 y1.val := by
  rw [tripMid.sl.Hd2_2]
  refine read_step sM2.view f 10 0 512 256 inb_S528x2816_S512x256_10_0 _ _ y0 y1 _ (fun i q h0 h1 => ?_) (fun hn => ?_)
  · rw [past_up D _ _ (512 * k.val + i.val) _ (by omega), h1]
    exact pay15_eq D _ i q 0 (tripMid.sl.r_6 c I k hq2) _ (r6_eq R k hq2 i) (fun x => rd4 R 0 _ x q)
  · refine read_step sM2.view f 8 0 8 2816 _ _ _ y0 y1 _ (fun i q h0 h1 => ?_) (fun hn => absurd ⟨⟨by omega, by omega⟩, by omega, by omega⟩ hn)
    rw [carry2_eq, show y1.val = q.val from by omega]
    rcases (show i.val = 0 ∨ i.val = 1 from by omega) with hi | hi
    · obtain rfl : i = 0 := Fin.ext hi
      rw [show 512 * k.val + (y0.val - 8) = 512 * k.val from by omega]
      exact C.two q
    · obtain rfl : i = 1 := Fin.ext hi
      rw [show 512 * k.val + (y0.val - 8) = 512 * k.val + 1 from by omega]
      exact C.two' q

theorem rows1_1 (f) (y0 : Fin 528) (y1 : Fin 2816) (h : y0.val = 8 ∨ (9 ≤ y0.val ∧ y0.val < 521 ∧ y1.val < 512)) :
    sM1.view.read (Elt Ideal) (sM1.view.writes (Elt Ideal) f (tripMid.sl.Hd1_3 c I k hq2 d1)) (ix2 y0 y1) = D.past (512 * k.val + (y0.val - 8)) 1 y1.val := by
  rw [tripMid.sl.Hd1_3]
  refine read_step sM1.view f 9 256 512 256 inb_S528x2816_S512x256_9_256 _ _ y0 y1 _ (fun i q h0 h1 => ?_) (fun hn => ?_)
  · rw [past_up D _ _ (512 * k.val + i.val) _ (by omega), h1]
    exact pay15_eq D _ i q 256 (tripMid.sl.r_6 c I k hq2) _ (r6_eq R k hq2 i) (fun x => rd4 R 256 _ x q)
  · exact rows1_0 R k hq2 C f y0 y1 (by omega)

theorem rows2_1 (f) (y0 : Fin 528) (y1 : Fin 2816) (h : (8 ≤ y0.val ∧ y0.val < 10) ∨ (10 ≤ y0.val ∧ y0.val < 522 ∧ y1.val < 512)) :
    sM2.view.read (Elt Ideal) (sM2.view.writes (Elt Ideal) f (tripMid.sl.Hd2_3 c I k hq2 d2)) (ix2 y0 y1) = D.past (512 * k.val + (y0.val - 8)) 2 y1.val := by
  rw [tripMid.sl.Hd2_3]
  refine read_step sM2.view f 10 256 512 256 inb_S528x2816_S512x256_10_256 _ _ y0 y1 _ (fun i q h0 h1 => ?_) (fun hn => ?_)
  · rw [past_up D _ _ (512 * k.val + i.val) _ (by omega), h1]
    exact pay15_eq D _ i q 256 (tripMid.sl.r_6 c I k hq2) _ (r6_eq R k hq2 i) (fun x => rd4 R 256 _ x q)
  · exact rows2_0 R k hq2 C f y0 y1 (by omega)

theorem rows1_2 (f) (y0 : Fin 528) (y1 : Fin 2816) (h : y0.val = 8 ∨ (9 ≤ y0.val ∧ y0.val < 521 ∧ y1.val < 768)) :
    sM1.view.read (Elt Ideal) (sM1.view.writes (Elt Ideal) f (tripMid.sl.Hd1_4 c I k hq2 d1)) (ix2 y0 y1) = D.past (512 * k.val + (y0.val - 8)) 1 y1.val := by
  rw [tripMid.sl.Hd1_4]
  refine read_step sM1.view f 9 512 512 256 inb_S528x2816_S512x256_9_512 _ _ y0 y1 _ (fun i q h0 h1 => ?_) (fun hn => ?_)
  · rw [past_up D _ _ (512 * k.val + i.val) _ (by omega), h1]
    exact pay15_eq D _ i q 512 (tripMid.sl.r_6 c I k hq2) _ (r6_eq R k hq2 i) (fun x => rd4 R 512 _ x q)
  · exact rows1_1 R k hq2 C f y0 y1 (by omega)

theorem rows2_2 (f) (y0 : Fin 528) (y1 : Fin 2816) (h : (8 ≤ y0.val ∧ y0.val < 10) ∨ (10 ≤ y0.val ∧ y0.val < 522 ∧ y1.val < 768)) :
    sM2.view.read (Elt Ideal) (sM2.view.writes (Elt Ideal) f (tripMid.sl.Hd2_4 c I k hq2 d2)) (ix2 y0 y1) = D.past (512 * k.val + (y0.val - 8)) 2 y1.val := by
  rw [tripMid.sl.Hd2_4]
  refine read_step sM2.view f 10 512 512 256 inb_S528x2816_S512x256_10_512 _ _ y0 y1 _ (fun i q h0 h1 => ?_) (fun hn => ?_)
  · rw [past_up D _ _ (512 * k.val + i.val) _ (by omega), h1]
    exact pay15_eq D _ i q 512 (tripMid.sl.r_6 c I k hq2) _ (r6_eq R k hq2 i) (fun x => rd4 R 512 _ x q)
  · exact rows2_1 R k hq2 C f y0 y1 (by omega)

theorem rows1_3 (f) (y0 : Fin 528) (y1 : Fin 2816) (h : y0.val = 8 ∨ (9 ≤ y0.val ∧ y0.val < 521 ∧ y1.val < 1024)) :
    sM1.view.read (Elt Ideal) (sM1.view.writes (Elt Ideal) f (tripMid.sl.Hd1_5 c I k hq2 d1)) (ix2 y0 y1) = D.past (512 * k.val + (y0.val - 8)) 1 y1.val := by
  rw [tripMid.sl.Hd1_5]
  refine read_step sM1.view f 9 768 512 256 inb_S528x2816_S512x256_9_768 _ _ y0 y1 _ (fun i q h0 h1 => ?_) (fun hn => ?_)
  · rw [past_up D _ _ (512 * k.val + i.val) _ (by omega), h1]
    exact pay15_eq D _ i q 768 (tripMid.sl.r_6 c I k hq2) _ (r6_eq R k hq2 i) (fun x => rd4 R 768 _ x q)
  · exact rows1_2 R k hq2 C f y0 y1 (by omega)

theorem rows2_3 (f) (y0 : Fin 528) (y1 : Fin 2816) (h : (8 ≤ y0.val ∧ y0.val < 10) ∨ (10 ≤ y0.val ∧ y0.val < 522 ∧ y1.val < 1024)) :
    sM2.view.read (Elt Ideal) (sM2.view.writes (Elt Ideal) f (tripMid.sl.Hd2_5 c I k hq2 d2)) (ix2 y0 y1) = D.past (512 * k.val + (y0.val - 8)) 2 y1.val := by
  rw [tripMid.sl.Hd2_5]
  refine read_step sM2.view f 10 768 512 256 inb_S528x2816_S512x256_10_768 _ _ y0 y1 _ (fun i q h0 h1 => ?_) (fun hn => ?_)
  · rw [past_up D _ _ (512 * k.val + i.val) _ (by omega), h1]
    exact pay15_eq D _ i q 768 (tripMid.sl.r_6 c I k hq2) _ (r6_eq R k hq2 i) (fun x => rd4 R 768 _ x q)
  · exact rows2_2 R k hq2 C f y0 y1 (by omega)

theorem rows1_4 (f) (y0 : Fin 528) (y1 : Fin 2816) (h : y0.val = 8 ∨ (9 ≤ y0.val ∧ y0.val < 521 ∧ y1.val < 1280)) :
    sM1.view.read (Elt Ideal) (sM1.view.writes (Elt Ideal) f (tripMid.sl.Hd1_6 c I k hq2 d1)) (ix2 y0 y1) = D.past (512 * k.val + (y0.val - 8)) 1 y1.val := by
  rw [tripMid.sl.Hd1_6]
  refine read_step sM1.view f 9 1024 512 256 inb_S528x2816_S512x256_9_1024 _ _ y0 y1 _ (fun i q h0 h1 => ?_) (fun hn => ?_)
  · rw [past_up D _ _ (512 * k.val + i.val) _ (by omega), h1]
    exact pay15_eq D _ i q 1024 (tripMid.sl.r_6 c I k hq2) _ (r6_eq R k hq2 i) (fun x => rd4 R 1024 _ x q)
  · exact rows1_3 R k hq2 C f y0 y1 (by omega)

theorem rows2_4 (f) (y0 : Fin 528) (y1 : Fin 2816) (h : (8 ≤ y0.val ∧ y0.val < 10) ∨ (10 ≤ y0.val ∧ y0.val < 522 ∧ y1.val < 1280)) :
    sM2.view.read (Elt Ideal) (sM2.view.writes (Elt Ideal) f (tripMid.sl.Hd2_6 c I k hq2 d2)) (ix2 y0 y1) = D.past (512 * k.val + (y0.val - 8)) 2 y1.val := by
  rw [tripMid.sl.Hd2_6]
  refine read_step sM2.view f 10 1024 512 256 inb_S528x2816_S512x256_10_1024 _ _ y0 y1 _ (fun i q h0 h1 => ?_) (fun hn => ?_)
  · rw [past_up D _ _ (512 * k.val + i.val) _ (by omega), h1]
    exact pay15_eq D _ i q 1024 (tripMid.sl.r_6 c I k hq2) _ (r6_eq R k hq2 i) (fun x => rd4 R 1024 _ x q)
  · exact rows2_3 R k hq2 C f y0 y1 (by omega)

theorem rows1_5 (f) (y0 : Fin 528) (y1 : Fin 2816) (h : y0.val = 8 ∨ (9 ≤ y0.val ∧ y0.val < 521 ∧ y1.val < 1536)) :
    sM1.view.read (Elt Ideal) (sM1.view.writes (Elt Ideal) f (tripMid.sl.Hd1_7 c I k hq2 d1)) (ix2 y0 y1) = D.past (512 * k.val + (y0.val - 8)) 1 y1.val := by
  rw [tripMid.sl.Hd1_7]
  refine read_step sM1.view f 9 1280 512 256 inb_S528x2816_S512x256_9_1280 _ _ y0 y1 _ (fun i q h0 h1 => ?_) (fun hn => ?_)
  · rw [past_up D _ _ (512 * k.val + i.val) _ (by omega), h1]
    exact pay15_eq D _ i q 1280 (tripMid.sl.r_6 c I k hq2) _ (r6_eq R k hq2 i) (fun x => rd4 R 1280 _ x q)
  · exact rows1_4 R k hq2 C f y0 y1 (by omega)

theorem rows2_5 (f) (y0 : Fin 528) (y1 : Fin 2816) (h : (8 ≤ y0.val ∧ y0.val < 10) ∨ (10 ≤ y0.val ∧ y0.val < 522 ∧ y1.val < 1536)) :
    sM2.view.read (Elt Ideal) (sM2.view.writes (Elt Ideal) f (tripMid.sl.Hd2_7 c I k hq2 d2)) (ix2 y0 y1) = D.past (512 * k.val + (y0.val - 8)) 2 y1.val := by
  rw [tripMid.sl.Hd2_7]
  refine read_step sM2.view f 10 1280 512 256 inb_S528x2816_S512x256_10_1280 _ _ y0 y1 _ (fun i q h0 h1 => ?_) (fun hn => ?_)
  · rw [past_up D _ _ (512 * k.val + i.val) _ (by omega), h1]
    exact pay15_eq D _ i q 1280 (tripMid.sl.r_6 c I k hq2) _ (r6_eq R k hq2 i) (fun x => rd4 R 1280 _ x q)
  · exact rows2_4 R k hq2 C f y0 y1 (by omega)

theorem rows1_6 (f) (y0 : Fin 528) (y1 : Fin 2816) (h : y0.val = 8 ∨ (9 ≤ y0.val ∧ y0.val < 521 ∧ y1.val < 1792)) :
    sM1.view.read (Elt Ideal) (sM1.view.writes (Elt Ideal) f (tripMid.sl.Hd1_8 c I k hq2 d1)) (ix2 y0 y1) = D.past (512 * k.val + (y0.val - 8)) 1 y1.val := by
  rw [tripMid.sl.Hd1_8]
  refine read_step sM1.view f 9 1536 512 256 inb_S528x2816_S512x256_9_1536 _ _ y0 y1 _ (fun i q h0 h1 => ?_) (fun hn => ?_)
  · rw [past_up D _ _ (512 * k.val + i.val) _ (by omega), h1]
    exact pay15_eq D _ i q 1536 (tripMid.sl.r_6 c I k hq2) _ (r6_eq R k hq2 i) (fun x => rd4 R 1536 _ x q)
  · exact rows1_5 R k hq2 C f y0 y1 (by omega)

theorem rows2_6 (f) (y0 : Fin 528) (y1 : Fin 2816) (h : (8 ≤ y0.val ∧ y0.val < 10) ∨ (10 ≤ y0.val ∧ y0.val < 522 ∧ y1.val < 1792)) :
    sM2.view.read (Elt Ideal) (sM2.view.writes (Elt Ideal) f (tripMid.sl.Hd2_8 c I k hq2 d2)) (ix2 y0 y1) = D.past (512 * k.val + (y0.val - 8)) 2 y1.val := by
  rw [tripMid.sl.Hd2_8]
  refine read_step sM2.view f 10 1536 512 256 inb_S528x2816_S512x256_10_1536 _ _ y0 y1 _ (fun i q h0 h1 => ?_) (fun hn => ?_)
  · rw [past_up D _ _ (512 * k.val + i.val) _ (by omega), h1]
    exact pay15_eq D _ i q 1536 (tripMid.sl.r_6 c I k hq2) _ (r6_eq R k hq2 i) (fun x => rd4 R 1536 _ x q)
  · exact rows2_5 R k hq2 C f y0 y1 (by omega)

theorem rows1_7 (f) (y0 : Fin 528) (y1 : Fin 2816) (h : y0.val = 8 ∨ (9 ≤ y0.val ∧ y0.val < 521 ∧ y1.val < 2048)) :
    sM1.view.read (Elt Ideal) (sM1.view.writes (Elt Ideal) f (tripMid.sl.Hd1_9 c I k hq2 d1)) (ix2 y0 y1) = D.past (512 * k.val + (y0.val - 8)) 1 y1.val := by
  rw [tripMid.sl.Hd1_9]
  refine read_step sM1.view f 9 1792 512 256 inb_S528x2816_S512x256_9_1792 _ _ y0 y1 _ (fun i q h0 h1 => ?_) (fun hn => ?_)
  · rw [past_up D _ _ (512 * k.val + i.val) _ (by omega), h1]
    exact pay15_eq D _ i q 1792 (tripMid.sl.r_6 c I k hq2) _ (r6_eq R k hq2 i) (fun x => rd4 R 1792 _ x q)
  · exact rows1_6 R k hq2 C f y0 y1 (by omega)

theorem rows2_7 (f) (y0 : Fin 528) (y1 : Fin 2816) (h : (8 ≤ y0.val ∧ y0.val < 10) ∨ (10 ≤ y0.val ∧ y0.val < 522 ∧ y1.val < 2048)) :
    sM2.view.read (Elt Ideal) (sM2.view.writes (Elt Ideal) f (tripMid.sl.Hd2_9 c I k hq2 d2)) (ix2 y0 y1) = D.past (512 * k.val + (y0.val - 8)) 2 y1.val := by
  rw [tripMid.sl.Hd2_9]
  refine read_step sM2.view f 10 1792 512 256 inb_S528x2816_S512x256_10_1792 _ _ y0 y1 _ (fun i q h0 h1 => ?_) (fun hn => ?_)
  · rw [past_up D _ _ (512 * k.val + i.val) _ (by omega), h1]
    exact pay15_eq D _ i q 1792 (tripMid.sl.r_6 c I k hq2) _ (r6_eq R k hq2 i) (fun x => rd4 R 1792 _ x q)
  · exact rows2_6 R k hq2 C f y0 y1 (by omega)

theorem rows1_8 (f) (y0 : Fin 528) (y1 : Fin 2816) (h : y0.val = 8 ∨ (9 ≤ y0.val ∧ y0.val < 521 ∧ y1.val < 2304)) :
    sM1.view.read (Elt Ideal) (sM1.view.writes (Elt Ideal) f (tripMid.sl.Hd1_10 c I k hq2 d1)) (ix2 y0 y1) = D.past (512 * k.val + (y0.val - 8)) 1 y1.val := by
  rw [tripMid.sl.Hd1_10]
  refine read_step sM1.view f 9 2048 512 256 inb_S528x2816_S512x256_9_2048 _ _ y0 y1 _ (fun i q h0 h1 => ?_) (fun hn => ?_)
  · rw [past_up D _ _ (512 * k.val + i.val) _ (by omega), h1]
    exact pay15_eq D _ i q 2048 (tripMid.sl.r_6 c I k hq2) _ (r6_eq R k hq2 i) (fun x => rd4 R 2048 _ x q)
  · exact rows1_7 R k hq2 C f y0 y1 (by omega)

theorem rows2_8 (f) (y0 : Fin 528) (y1 : Fin 2816) (h : (8 ≤ y0.val ∧ y0.val < 10) ∨ (10 ≤ y0.val ∧ y0.val < 522 ∧ y1.val < 2304)) :
    sM2.view.read (Elt Ideal) (sM2.view.writes (Elt Ideal) f (tripMid.sl.Hd2_10 c I k hq2 d2)) (ix2 y0 y1) = D.past (512 * k.val + (y0.val - 8)) 2 y1.val := by
  rw [tripMid.sl.Hd2_10]
  refine read_step sM2.view f 10 2048 512 256 inb_S528x2816_S512x256_10_2048 _ _ y0 y1 _ (fun i q h0 h1 => ?_) (fun hn => ?_)
  · rw [past_up D _ _ (512 * k.val + i.val) _ (by omega), h1]
    exact pay15_eq D _ i q 2048 (tripMid.sl.r_6 c I k hq2) _ (r6_eq R k hq2 i) (fun x => rd4 R 2048 _ x q)
  · exact rows2_7 R k hq2 C f y0 y1 (by omega)

theorem rows1_9 (f) (y0 : Fin 528) (y1 : Fin 2816) (h : y0.val = 8 ∨ (9 ≤ y0.val ∧ y0.val < 521 ∧ y1.val < 2560)) :
    sM1.view.read (Elt Ideal) (sM1.view.writes (Elt Ideal) f (tripMid.sl.Hd1_11 c I k hq2 d1)) (ix2 y0 y1) = D.past (512 * k.val + (y0.val - 8)) 1 y1.val := by
  rw [tripMid.sl.Hd1_11]
  refine read_step sM1.view f 9 2304 512 256 inb_S528x2816_S512x256_9_2304 _ _ y0 y1 _ (fun i q h0 h1 => ?_) (fun hn => ?_)
  · rw [past_up D _ _ (512 * k.val + i.val) _ (by omega), h1]
    exact pay15_eq D _ i q 2304 (tripMid.sl.r_6 c I k hq2) _ (r6_eq R k hq2 i) (fun x => rd4 R 2304 _ x q)
  · exact rows1_8 R k hq2 C f y0 y1 (by omega)

theorem rows2_9 (f) (y0 : Fin 528) (y1 : Fin 2816) (h : (8 ≤ y0.val ∧ y0.val < 10) ∨ (10 ≤ y0.val ∧ y0.val < 522 ∧ y1.val < 2560)) :
    sM2.view.read (Elt Ideal) (sM2.view.writes (Elt Ideal) f (tripMid.sl.Hd2_11 c I k hq2 d2)) (ix2 y0 y1) = D.past (512 * k.val + (y0.val - 8)) 2 y1.val := by
  rw [tripMid.sl.Hd2_11]
  refine read_step sM2.view f 10 2304 512 256 inb_S528x2816_S512x256_10_2304 _ _ y0 y1 _ (fun i q h0 h1 => ?_) (fun hn => ?_)
  · rw [past_up D _ _ (512 * k.val + i.val) _ (by omega), h1]
    exact pay15_eq D _ i q 2304 (tripMid.sl.r_6 c I k hq2) _ (r6_eq R k hq2 i) (fun x => rd4 R 2304 _ x q)
  · exact rows2_8 R k hq2 C f y0 y1 (by omega)

theorem rows1_10 (f) (y0 : Fin 528) (y1 : Fin 2816) (h : y0.val = 8 ∨ (9 ≤ y0.val ∧ y0.val < 521 ∧ y1.val < 2816)) :
    sM1.view.read (Elt Ideal) (sM1.view.writes (Elt Ideal) f (tripMid.sl.Hd1_12 c I k hq2 d1)) (ix2 y0 y1) = D.past (512 * k.val + (y0.val - 8)) 1 y1.val := by
  rw [tripMid.sl.Hd1_12]
  refine read_step sM1.view f 9 2560 512 256 inb_S528x2816_S512x256_9_2560 _ _ y0 y1 _ (fun i q h0 h1 => ?_) (fun hn => ?_)
  · rw [past_up D _ _ (512 * k.val + i.val) _ (by omega), h1]
    exact pay15_eq D _ i q 2560 (tripMid.sl.r_6 c I k hq2) _ (r6_eq R k hq2 i) (fun x => rd4 R 2560 _ x q)
  · exact rows1_9 R k hq2 C f y0 y1 (by omega)

theorem rows2_10 (f) (y0 : Fin 528) (y1 : Fin 2816) (h : (8 ≤ y0.val ∧ y0.val < 10) ∨ (10 ≤ y0.val ∧ y0.val < 522 ∧ y1.val < 2816)) :
    sM2.view.read (Elt Ideal) (sM2.view.writes (Elt Ideal) f (tripMid.sl.Hd2_12 c I k hq2 d2)) (ix2 y0 y1) = D.past (512 * k.val + (y0.val - 8)) 2 y1.val := by
  rw [tripMid.sl.Hd2_12]
  refine read_step sM2.view f 10 2560 512 256 inb_S528x2816_S512x256_10_2560 _ _ y0 y1 _ (fun i q h0 h1 => ?_) (fun hn => ?_)
  · rw [past_up D _ _ (512 * k.val + i.val) _ (by omega), h1]
    exact pay15_eq D _ i q 2560 (tripMid.sl.r_6 c I k hq2) _ (r6_eq R k hq2 i) (fun x => rd4 R 2560 _ x q)
  · exact rows2_9 R k hq2 C f y0 y1 (by omega)

theorem two_back_0 (i : Fin 512) (q : Fin 256) : tripMid.sl.v154_r0 c I k hq2 d2 (ix2 i q) = D.past (512 * k.val + i) 2 (0 + q) := by
  have e : (Rect.unit (s := S528x2816) ![8, 0] S512x256.size inb_S528x2816_S512x256_8_0).toLoadRect.idx (ix2 i q) = ix2 (⟨8 + i.val, by omega⟩ : Fin 528) (⟨0 + q.val, by omega⟩ : Fin 2816) := by
    funext x; refine Fin.ext ?_; fin_cases x
    · show 8 + 1 * i.val = 8 + i.val; omega
    · show 0 + 1 * q.val = 0 + q.val; omega
  refine (congrArg (sM2.view.read (Elt Ideal) (sM2.view.writes (Elt Ideal) sM2.view.junk (tripMid.sl.Hd2_2 c I k hq2 d2))) e).trans ?_
  refine (rows2_0 R k hq2 C _ _ _ (by show (8 ≤ 8 + i.val ∧ 8 + i.val < 10) ∨ (10 ≤ 8 + i.val ∧ 8 + i.val < 522 ∧ 0 + q.val < 256); omega)).trans ?_
  show D.past (512 * k.val + (8 + i.val - 8)) 2 (0 + q.val) = _
  rw [Nat.add_sub_cancel_left]
theorem one_back_0 (i : Fin 512) (q : Fin 256) : tripMid.sl.v158_r0 c I k hq2 d1 (ix2 i q) = D.past (512 * k.val + i) 1 (0 + q) := by
  have e : (Rect.unit (s := S528x2816) ![8, 0] S512x256.size inb_S528x2816_S512x256_8_0).toLoadRect.idx (ix2 i q) = ix2 (⟨8 + i.val, by omega⟩ : Fin 528) (⟨0 + q.val, by omega⟩ : Fin 2816) := by
    funext x; refine Fin.ext ?_; fin_cases x
    · show 8 + 1 * i.val = 8 + i.val; omega
    · show 0 + 1 * q.val = 0 + q.val; omega
  refine (congrArg (sM1.view.read (Elt Ideal) (sM1.view.writes (Elt Ideal) sM1.view.junk (tripMid.sl.Hd1_2 c I k hq2 d1))) e).trans ?_
  refine (rows1_0 R k hq2 C _ _ _ (by show 8 + i.val = 8 ∨ (9 ≤ 8 + i.val ∧ 8 + i.val < 521 ∧ 0 + q.val < 256); omega)).trans ?_
  show D.past (512 * k.val + (8 + i.val - 8)) 1 (0 + q.val) = _
  rw [Nat.add_sub_cancel_left]
theorem act_eq_0 (i : Fin 512) (q : Fin 256) :
    k0_pay11 (tripMid.sl.r_7 c I k hq2) (tripMid.sl.r_8 c I k hq2) (tripMid.sl.r_9 c I) (tripMid.sl.v154_r0 c I k hq2 d2) (tripMid.sl.r_10 c I) (tripMid.sl.v158_r0 c I k hq2 d1)
      (View.readAt (Elt Ideal) (Memref.whole cc0_stg5_0).view (Rect.unit (s := S1x2816) ![0, 0] S1x256.size inb_S1x2816_S1x256_0_0).toLoadRect I.a6) (ix2 i q)
      = D.act (512 * k.val + i) (0 + q) :=
  pay11_eq D _ i q 0 _ _ _ _ _ _ _ (a_eq_0 R k hq2 i q) (v_eq_0 R k hq2 i q) (fun t => w_eq_0 R t q) (two_back_0 R k hq2 C i q)
    (w0_eq_0 R q) (one_back_0 R k hq2 C i q) (rd6 R 0 _ q)

theorem two_back_1 (i : Fin 512) (q : Fin 256) : tripMid.sl.v191_r0 c I k hq2 d2 (ix2 i q) = D.past (512 * k.val + i) 2 (256 + q) := by
  have e : (Rect.unit (s := S528x2816) ![8, 256] S512x256.size inb_S528x2816_S512x256_8_256).toLoadRect.idx (ix2 i q) = ix2 (⟨8 + i.val, by omega⟩ : Fin 528) (⟨256 + q.val, by omega⟩ : Fin 2816) := by
    funext x; refine Fin.ext ?_; fin_cases x
    · show 8 + 1 * i.val = 8 + i.val; omega
    · show 256 + 1 * q.val = 256 + q.val; omega
  refine (congrArg (sM2.view.read (Elt Ideal) (sM2.view.writes (Elt Ideal) sM2.view.junk (tripMid.sl.Hd2_3 c I k hq2 d2))) e).trans ?_
  refine (rows2_1 R k hq2 C _ _ _ (by show (8 ≤ 8 + i.val ∧ 8 + i.val < 10) ∨ (10 ≤ 8 + i.val ∧ 8 + i.val < 522 ∧ 256 + q.val < 512); omega)).trans ?_
  show D.past (512 * k.val + (8 + i.val - 8)) 2 (256 + q.val) = _
  rw [Nat.add_sub_cancel_left]
theorem one_back_1 (i : Fin 512) (q : Fin 256) : tripMid.sl.v195_r0 c I k hq2 d1 (ix2 i q) = D.past (512 * k.val + i) 1 (256 + q) := by
  have e : (Rect.unit (s := S528x2816) ![8, 256] S512x256.size inb_S528x2816_S512x256_8_256).toLoadRect.idx (ix2 i q) = ix2 (⟨8 + i.val, by omega⟩ : Fin 528) (⟨256 + q.val, by omega⟩ : Fin 2816) := by
    funext x; refine Fin.ext ?_; fin_cases x
    · show 8 + 1 * i.val = 8 + i.val; omega
    · show 256 + 1 * q.val = 256 + q.val; omega
  refine (congrArg (sM1.view.read (Elt Ideal) (sM1.view.writes (Elt Ideal) sM1.view.junk (tripMid.sl.Hd1_3 c I k hq2 d1))) e).trans ?_
  refine (rows1_1 R k hq2 C _ _ _ (by show 8 + i.val = 8 ∨ (9 ≤ 8 + i.val ∧ 8 + i.val < 521 ∧ 256 + q.val < 512); omega)).trans ?_
  show D.past (512 * k.val + (8 + i.val - 8)) 1 (256 + q.val) = _
  rw [Nat.add_sub_cancel_left]
theorem act_eq_1 (i : Fin 512) (q : Fin 256) :
    k0_pay18 (tripMid.sl.r_11 c I k hq2) (tripMid.sl.r_12 c I k hq2) (tripMid.sl.r_13 c I) (tripMid.sl.v191_r0 c I k hq2 d2) (tripMid.sl.r_14 c I) (tripMid.sl.v195_r0 c I k hq2 d1)
      (View.readAt (Elt Ideal) (Memref.whole cc0_stg5_0).view (Rect.unit (s := S1x2816) ![0, 256] S1x256.size inb_S1x2816_S1x256_0_256).toLoadRect I.a6) (ix2 i q)
      = D.act (512 * k.val + i) (256 + q) :=
  pay11_eq D _ i q 256 _ _ _ _ _ _ _ (a_eq_1 R k hq2 i q) (v_eq_1 R k hq2 i q) (fun t => w_eq_1 R t q) (two_back_1 R k hq2 C i q)
    (w0_eq_1 R q) (one_back_1 R k hq2 C i q) (rd6 R 256 _ q)

theorem two_back_2 (i : Fin 512) (q : Fin 256) : tripMid.sl.v228_r0 c I k hq2 d2 (ix2 i q) = D.past (512 * k.val + i) 2 (512 + q) := by
  have e : (Rect.unit (s := S528x2816) ![8, 512] S512x256.size inb_S528x2816_S512x256_8_512).toLoadRect.idx (ix2 i q) = ix2 (⟨8 + i.val, by omega⟩ : Fin 528) (⟨512 + q.val, by omega⟩ : Fin 2816) := by
    funext x; refine Fin.ext ?_; fin_cases x
    · show 8 + 1 * i.val = 8 + i.val; omega
    · show 512 + 1 * q.val = 512 + q.val; omega
  refine (congrArg (sM2.view.read (Elt Ideal) (sM2.view.writes (Elt Ideal) sM2.view.junk (tripMid.sl.Hd2_4 c I k hq2 d2))) e).trans ?_
  refine (rows2_2 R k hq2 C _ _ _ (by show (8 ≤ 8 + i.val ∧ 8 + i.val < 10) ∨ (10 ≤ 8 + i.val ∧ 8 + i.val < 522 ∧ 512 + q.val < 768); omega)).trans ?_
  show D.past (512 * k.val + (8 + i.val - 8)) 2 (512 + q.val) = _
  rw [Nat.add_sub_cancel_left]
theorem one_back_2 (i : Fin 512) (q : Fin 256) : tripMid.sl.v232_r0 c I k hq2 d1 (ix2 i q) = D.past (512 * k.val + i) 1 (512 + q) := by
  have e : (Rect.unit (s := S528x2816) ![8, 512] S512x256.size inb_S528x2816_S512x256_8_512).toLoadRect.idx (ix2 i q) = ix2 (⟨8 + i.val, by omega⟩ : Fin 528) (⟨512 + q.val, by omega⟩ : Fin 2816) := by
    funext x; refine Fin.ext ?_; fin_cases x
    · show 8 + 1 * i.val = 8 + i.val; omega
    · show 512 + 1 * q.val = 512 + q.val; omega
  refine (congrArg (sM1.view.read (Elt Ideal) (sM1.view.writes (Elt Ideal) sM1.view.junk (tripMid.sl.Hd1_4 c I k hq2 d1))) e).trans ?_
  refine (rows1_2 R k hq2 C _ _ _ (by show 8 + i.val = 8 ∨ (9 ≤ 8 + i.val ∧ 8 + i.val < 521 ∧ 512 + q.val < 768); omega)).trans ?_
  show D.past (512 * k.val + (8 + i.val - 8)) 1 (512 + q.val) = _
  rw [Nat.add_sub_cancel_left]
theorem act_eq_2 (i : Fin 512) (q : Fin 256) :
    k0_pay25 (tripMid.sl.r_15 c I k hq2) (tripMid.sl.r_16 c I k hq2) (tripMid.sl.r_17 c I) (tripMid.sl.v228_r0 c I k hq2 d2) (tripMid.sl.r_18 c I) (tripMid.sl.v232_r0 c I k hq2 d1)
      (View.readAt (Elt Ideal) (Memref.whole cc0_stg5_0).view (Rect.unit (s := S1x2816) ![0, 512] S1x256.size inb_S1x2816_S1x256_0_512).toLoadRect I.a6) (ix2 i q)
      = D.act (512 * k.val + i) (512 + q) :=
  pay11_eq D _ i q 512 _ _ _ _ _ _ _ (a_eq_2 R k hq2 i q) (v_eq_2 R k hq2 i q) (fun t => w_eq_2 R t q) (two_back_2 R k hq2 C i q)
    (w0_eq_2 R q) (one_back_2 R k hq2 C i q) (rd6 R 512 _ q)

theorem two_back_3 (i : Fin 512) (q : Fin 256) : tripMid.sl.v265_r0 c I k hq2 d2 (ix2 i q) = D.past (512 * k.val + i) 2 (768 + q) := by
  have e : (Rect.unit (s := S528x2816) ![8, 768] S512x256.size inb_S528x2816_S512x256_8_768).toLoadRect.idx (ix2 i q) = ix2 (⟨8 + i.val, by omega⟩ : Fin 528) (⟨768 + q.val, by omega⟩ : Fin 2816) := by
    funext x; refine Fin.ext ?_; fin_cases x
    · show 8 + 1 * i.val = 8 + i.val; omega
    · show 768 + 1 * q.val = 768 + q.val; omega
  refine (congrArg (sM2.view.read (Elt Ideal) (sM2.view.writes (Elt Ideal) sM2.view.junk (tripMid.sl.Hd2_5 c I k hq2 d2))) e).trans ?_
  refine (rows2_3 R k hq2 C _ _ _ (by show (8 ≤ 8 + i.val ∧ 8 + i.val < 10) ∨ (10 ≤ 8 + i.val ∧ 8 + i.val < 522 ∧ 768 + q.val < 1024); omega)).trans ?_
  show D.past (512 * k.val + (8 + i.val - 8)) 2 (768 + q.val) = _
  rw [Nat.add_sub_cancel_left]
theorem one_back_3 (i : Fin 512) (q : Fin 256) : tripMid.sl.v269_r0 c I k hq2 d1 (ix2 i q) = D.past (512 * k.val + i) 1 (768 + q) := by
  have e : (Rect.unit (s := S528x2816) ![8, 768] S512x256.size inb_S528x2816_S512x256_8_768).toLoadRect.idx (ix2 i q) = ix2 (⟨8 + i.val, by omega⟩ : Fin 528) (⟨768 + q.val, by omega⟩ : Fin 2816) := by
    funext x; refine Fin.ext ?_; fin_cases x
    · show 8 + 1 * i.val = 8 + i.val; omega
    · show 768 + 1 * q.val = 768 + q.val; omega
  refine (congrArg (sM1.view.read (Elt Ideal) (sM1.view.writes (Elt Ideal) sM1.view.junk (tripMid.sl.Hd1_5 c I k hq2 d1))) e).trans ?_
  refine (rows1_3 R k hq2 C _ _ _ (by show 8 + i.val = 8 ∨ (9 ≤ 8 + i.val ∧ 8 + i.val < 521 ∧ 768 + q.val < 1024); omega)).trans ?_
  show D.past (512 * k.val + (8 + i.val - 8)) 1 (768 + q.val) = _
  rw [Nat.add_sub_cancel_left]
theorem act_eq_3 (i : Fin 512) (q : Fin 256) :
    k0_pay32 (tripMid.sl.r_19 c I k hq2) (tripMid.sl.r_20 c I k hq2) (tripMid.sl.r_21 c I) (tripMid.sl.v265_r0 c I k hq2 d2) (tripMid.sl.r_22 c I) (tripMid.sl.v269_r0 c I k hq2 d1)
      (View.readAt (Elt Ideal) (Memref.whole cc0_stg5_0).view (Rect.unit (s := S1x2816) ![0, 768] S1x256.size inb_S1x2816_S1x256_0_768).toLoadRect I.a6) (ix2 i q)
      = D.act (512 * k.val + i) (768 + q) :=
  pay11_eq D _ i q 768 _ _ _ _ _ _ _ (a_eq_3 R k hq2 i q) (v_eq_3 R k hq2 i q) (fun t => w_eq_3 R t q) (two_back_3 R k hq2 C i q)
    (w0_eq_3 R q) (one_back_3 R k hq2 C i q) (rd6 R 768 _ q)

theorem two_back_4 (i : Fin 512) (q : Fin 256) : tripMid.sl.v302_r0 c I k hq2 d2 (ix2 i q) = D.past (512 * k.val + i) 2 (1024 + q) := by
  have e : (Rect.unit (s := S528x2816) ![8, 1024] S512x256.size inb_S528x2816_S512x256_8_1024).toLoadRect.idx (ix2 i q) = ix2 (⟨8 + i.val, by omega⟩ : Fin 528) (⟨1024 + q.val, by omega⟩ : Fin 2816) := by
    funext x; refine Fin.ext ?_; fin_cases x
    · show 8 + 1 * i.val = 8 + i.val; omega
    · show 1024 + 1 * q.val = 1024 + q.val; omega
  refine (congrArg (sM2.view.read (Elt Ideal) (sM2.view.writes (Elt Ideal) sM2.view.junk (tripMid.sl.Hd2_6 c I k hq2 d2))) e).trans ?_
  refine (rows2_4 R k hq2 C _ _ _ (by show (8 ≤ 8 + i.val ∧ 8 + i.val < 10) ∨ (10 ≤ 8 + i.val ∧ 8 + i.val < 522 ∧ 1024 + q.val < 1280); omega)).trans ?_
  show D.past (512 * k.val + (8 + i.val - 8)) 2 (1024 + q.val) = _
  rw [Nat.add_sub_cancel_left]
theorem one_back_4 (i : Fin 512) (q : Fin 256) : tripMid.sl.v306_r0 c I k hq2 d1 (ix2 i q) = D.past (512 * k.val + i) 1 (1024 + q) := by
  have e : (Rect.unit (s := S528x2816) ![8, 1024] S512x256.size inb_S528x2816_S512x256_8_1024).toLoadRect.idx (ix2 i q) = ix2 (⟨8 + i.val, by omega⟩ : Fin 528) (⟨1024 + q.val, by omega⟩ : Fin 2816) := by
    funext x; refine Fin.ext ?_; fin_cases x
    · show 8 + 1 * i.val = 8 + i.val; omega
    · show 1024 + 1 * q.val = 1024 + q.val; omega
  refine (congrArg (sM1.view.read (Elt Ideal) (sM1.view.writes (Elt Ideal) sM1.view.junk (tripMid.sl.Hd1_6 c I k hq2 d1))) e).trans ?_
  refine (rows1_4 R k hq2 C _ _ _ (by show 8 + i.val = 8 ∨ (9 ≤ 8 + i.val ∧ 8 + i.val < 521 ∧ 1024 + q.val < 1280); omega)).trans ?_
  show D.past (512 * k.val + (8 + i.val - 8)) 1 (1024 + q.val) = _
  rw [Nat.add_sub_cancel_left]
theorem act_eq_4 (i : Fin 512) (q : Fin 256) :
    k0_pay39 (tripMid.sl.r_23 c I k hq2) (tripMid.sl.r_24 c I k hq2) (tripMid.sl.r_25 c I) (tripMid.sl.v302_r0 c I k hq2 d2) (tripMid.sl.r_26 c I) (tripMid.sl.v306_r0 c I k hq2 d1)
      (View.readAt (Elt Ideal) (Memref.whole cc0_stg5_0).view (Rect.unit (s := S1x2816) ![0, 1024] S1x256.size inb_S1x2816_S1x256_0_1024).toLoadRect I.a6) (ix2 i q)
      = D.act (512 * k.val + i) (1024 + q) :=
  pay11_eq D _ i q 1024 _ _ _ _ _ _ _ (a_eq_4 R k hq2 i q) (v_eq_4 R k hq2 i q) (fun t => w_eq_4 R t q) (two_back_4 R k hq2 C i q)
    (w0_eq_4 R q) (one_back_4 R k hq2 C i q) (rd6 R 1024 _ q)

theorem two_back_5 (i : Fin 512) (q : Fin 256) : tripMid.sl.v339_r0 c I k hq2 d2 (ix2 i q) = D.past (512 * k.val + i) 2 (1280 + q) := by
  have e : (Rect.unit (s := S528x2816) ![8, 1280] S512x256.size inb_S528x2816_S512x256_8_1280).toLoadRect.idx (ix2 i q) = ix2 (⟨8 + i.val, by omega⟩ : Fin 528) (⟨1280 + q.val, by omega⟩ : Fin 2816) := by
    funext x; refine Fin.ext ?_; fin_cases x
    · show 8 + 1 * i.val = 8 + i.val; omega
    · show 1280 + 1 * q.val = 1280 + q.val; omega
  refine (congrArg (sM2.view.read (Elt Ideal) (sM2.view.writes (Elt Ideal) sM2.view.junk (tripMid.sl.Hd2_7 c I k hq2 d2))) e).trans ?_
  refine (rows2_5 R k hq2 C _ _ _ (by show (8 ≤ 8 + i.val ∧ 8 + i.val < 10) ∨ (10 ≤ 8 + i.val ∧ 8 + i.val < 522 ∧ 1280 + q.val < 1536); omega)).trans ?_
  show D.past (512 * k.val + (8 + i.val - 8)) 2 (1280 + q.val) = _
  rw [Nat.add_sub_cancel_left]
theorem one_back_5 (i : Fin 512) (q : Fin 256) : tripMid.sl.v343_r0 c I k hq2 d1 (ix2 i q) = D.past (512 * k.val + i) 1 (1280 + q) := by
  have e : (Rect.unit (s := S528x2816) ![8, 1280] S512x256.size inb_S528x2816_S512x256_8_1280).toLoadRect.idx (ix2 i q) = ix2 (⟨8 + i.val, by omega⟩ : Fin 528) (⟨1280 + q.val, by omega⟩ : Fin 2816) := by
    funext x; refine Fin.ext ?_; fin_cases x
    · show 8 + 1 * i.val = 8 + i.val; omega
    · show 1280 + 1 * q.val = 1280 + q.val; omega
  refine (congrArg (sM1.view.read (Elt Ideal) (sM1.view.writes (Elt Ideal) sM1.view.junk (tripMid.sl.Hd1_7 c I k hq2 d1))) e).trans ?_
  refine (rows1_5 R k hq2 C _ _ _ (by show 8 + i.val = 8 ∨ (9 ≤ 8 + i.val ∧ 8 + i.val < 521 ∧ 1280 + q.val < 1536); omega)).trans ?_
  show D.past (512 * k.val + (8 + i.val - 8)) 1 (1280 + q.val) = _
  rw [Nat.add_sub_cancel_left]
theorem act_eq_5 (i : Fin 512) (q : Fin 256) :
    k0_pay46 (tripMid.sl.r_27 c I k hq2) (tripMid.sl.r_28 c I k hq2) (tripMid.sl.r_29 c I) (tripMid.sl.v339_r0 c I k hq2 d2) (tripMid.sl.r_30 c I) (tripMid.sl.v343_r0 c I k hq2 d1)
      (View.readAt (Elt Ideal) (Memref.whole cc0_stg5_0).view (Rect.unit (s := S1x2816) ![0, 1280] S1x256.size inb_S1x2816_S1x256_0_1280).toLoadRect I.a6) (ix2 i q)
      = D.act (512 * k.val + i) (1280 + q) :=
  pay11_eq D _ i q 1280 _ _ _ _ _ _ _ (a_eq_5 R k hq2 i q) (v_eq_5 R k hq2 i q) (fun t => w_eq_5 R t q) (two_back_5 R k hq2 C i q)
    (w0_eq_5 R q) (one_back_5 R k hq2 C i q) (rd6 R 1280 _ q)

theorem two_back_6 (i : Fin 512) (q : Fin 256) : tripMid.sl.v376_r0 c I k hq2 d2 (ix2 i q) = D.past (512 * k.val + i) 2 (1536 + q) := by
  have e : (Rect.unit (s := S528x2816) ![8, 1536] S512x256.size inb_S528x2816_S512x256_8_1536).toLoadRect.idx (ix2 i q) = ix2 (⟨8 + i.val, by omega⟩ : Fin 528) (⟨1536 + q.val, by omega⟩ : Fin 2816) := by
    funext x; refine Fin.ext ?_; fin_cases x
    · show 8 + 1 * i.val = 8 + i.val; omega
    · show 1536 + 1 * q.val = 1536 + q.val; omega
  refine (congrArg (sM2.view.read (Elt Ideal) (sM2.view.writes (Elt Ideal) sM2.view.junk (tripMid.sl.Hd2_8 c I k hq2 d2))) e).trans ?_
  refine (rows2_6 R k hq2 C _ _ _ (by show (8 ≤ 8 + i.val ∧ 8 + i.val < 10) ∨ (10 ≤ 8 + i.val ∧ 8 + i.val < 522 ∧ 1536 + q.val < 1792); omega)).trans ?_
  show D.past (512 * k.val + (8 + i.val - 8)) 2 (1536 + q.val) = _
  rw [Nat.add_sub_cancel_left]
theorem one_back_6 (i : Fin 512) (q : Fin 256) : tripMid.sl.v380_r0 c I k hq2 d1 (ix2 i q) = D.past (512 * k.val + i) 1 (1536 + q) := by
  have e : (Rect.unit (s := S528x2816) ![8, 1536] S512x256.size inb_S528x2816_S512x256_8_1536).toLoadRect.idx (ix2 i q) = ix2 (⟨8 + i.val, by omega⟩ : Fin 528) (⟨1536 + q.val, by omega⟩ : Fin 2816) := by
    funext x; refine Fin.ext ?_; fin_cases x
    · show 8 + 1 * i.val = 8 + i.val; omega
    · show 1536 + 1 * q.val = 1536 + q.val; omega
  refine (congrArg (sM1.view.read (Elt Ideal) (sM1.view.writes (Elt Ideal) sM1.view.junk (tripMid.sl.Hd1_8 c I k hq2 d1))) e).trans ?_
  refine (rows1_6 R k hq2 C _ _ _ (by show 8 + i.val = 8 ∨ (9 ≤ 8 + i.val ∧ 8 + i.val < 521 ∧ 1536 + q.val < 1792); omega)).trans ?_
  show D.past (512 * k.val + (8 + i.val - 8)) 1 (1536 + q.val) = _
  rw [Nat.add_sub_cancel_left]
theorem act_eq_6 (i : Fin 512) (q : Fin 256) :
    k0_pay53 (tripMid.sl.r_31 c I k hq2) (tripMid.sl.r_32 c I k hq2) (tripMid.sl.r_33 c I) (tripMid.sl.v376_r0 c I k hq2 d2) (tripMid.sl.r_34 c I) (tripMid.sl.v380_r0 c I k hq2 d1)
      (View.readAt (Elt Ideal) (Memref.whole cc0_stg5_0).view (Rect.unit (s := S1x2816) ![0, 1536] S1x256.size inb_S1x2816_S1x256_0_1536).toLoadRect I.a6) (ix2 i q)
      = D.act (512 * k.val + i) (1536 + q) :=
  pay11_eq D _ i q 1536 _ _ _ _ _ _ _ (a_eq_6 R k hq2 i q) (v_eq_6 R k hq2 i q) (fun t => w_eq_6 R t q) (two_back_6 R k hq2 C i q)
    (w0_eq_6 R q) (one_back_6 R k hq2 C i q) (rd6 R 1536 _ q)

theorem two_back_7 (i : Fin 512) (q : Fin 256) : tripMid.sl.v413_r0 c I k hq2 d2 (ix2 i q) = D.past (512 * k.val + i) 2 (1792 + q) := by
  have e : (Rect.unit (s := S528x2816) ![8, 1792] S512x256.size inb_S528x2816_S512x256_8_1792).toLoadRect.idx (ix2 i q) = ix2 (⟨8 + i.val, by omega⟩ : Fin 528) (⟨1792 + q.val, by omega⟩ : Fin 2816) := by
    funext x; refine Fin.ext ?_; fin_cases x
    · show 8 + 1 * i.val = 8 + i.val; omega
    · show 1792 + 1 * q.val = 1792 + q.val; omega
  refine (congrArg (sM2.view.read (Elt Ideal) (sM2.view.writes (Elt Ideal) sM2.view.junk (tripMid.sl.Hd2_9 c I k hq2 d2))) e).trans ?_
  refine (rows2_7 R k hq2 C _ _ _ (by show (8 ≤ 8 + i.val ∧ 8 + i.val < 10) ∨ (10 ≤ 8 + i.val ∧ 8 + i.val < 522 ∧ 1792 + q.val < 2048); omega)).trans ?_
  show D.past (512 * k.val + (8 + i.val - 8)) 2 (1792 + q.val) = _
  rw [Nat.add_sub_cancel_left]
theorem one_back_7 (i : Fin 512) (q : Fin 256) : tripMid.sl.v417_r0 c I k hq2 d1 (ix2 i q) = D.past (512 * k.val + i) 1 (1792 + q) := by
  have e : (Rect.unit (s := S528x2816) ![8, 1792] S512x256.size inb_S528x2816_S512x256_8_1792).toLoadRect.idx (ix2 i q) = ix2 (⟨8 + i.val, by omega⟩ : Fin 528) (⟨1792 + q.val, by omega⟩ : Fin 2816) := by
    funext x; refine Fin.ext ?_; fin_cases x
    · show 8 + 1 * i.val = 8 + i.val; omega
    · show 1792 + 1 * q.val = 1792 + q.val; omega
  refine (congrArg (sM1.view.read (Elt Ideal) (sM1.view.writes (Elt Ideal) sM1.view.junk (tripMid.sl.Hd1_9 c I k hq2 d1))) e).trans ?_
  refine (rows1_7 R k hq2 C _ _ _ (by show 8 + i.val = 8 ∨ (9 ≤ 8 + i.val ∧ 8 + i.val < 521 ∧ 1792 + q.val < 2048); omega)).trans ?_
  show D.past (512 * k.val + (8 + i.val - 8)) 1 (1792 + q.val) = _
  rw [Nat.add_sub_cancel_left]
theorem act_eq_7 (i : Fin 512) (q : Fin 256) :
    k0_pay60 (tripMid.sl.r_35 c I k hq2) (tripMid.sl.r_36 c I k hq2) (tripMid.sl.r_37 c I) (tripMid.sl.v413_r0 c I k hq2 d2) (tripMid.sl.r_38 c I) (tripMid.sl.v417_r0 c I k hq2 d1)
      (View.readAt (Elt Ideal) (Memref.whole cc0_stg5_0).view (Rect.unit (s := S1x2816) ![0, 1792] S1x256.size inb_S1x2816_S1x256_0_1792).toLoadRect I.a6) (ix2 i q)
      = D.act (512 * k.val + i) (1792 + q) :=
  pay11_eq D _ i q 1792 _ _ _ _ _ _ _ (a_eq_7 R k hq2 i q) (v_eq_7 R k hq2 i q) (fun t => w_eq_7 R t q) (two_back_7 R k hq2 C i q)
    (w0_eq_7 R q) (one_back_7 R k hq2 C i q) (rd6 R 1792 _ q)

theorem two_back_8 (i : Fin 512) (q : Fin 256) : tripMid.sl.v450_r0 c I k hq2 d2 (ix2 i q) = D.past (512 * k.val + i) 2 (2048 + q) := by
  have e : (Rect.unit (s := S528x2816) ![8, 2048] S512x256.size inb_S528x2816_S512x256_8_2048).toLoadRect.idx (ix2 i q) = ix2 (⟨8 + i.val, by omega⟩ : Fin 528) (⟨2048 + q.val, by omega⟩ : Fin 2816) := by
    funext x; refine Fin.ext ?_; fin_cases x
    · show 8 + 1 * i.val = 8 + i.val; omega
    · show 2048 + 1 * q.val = 2048 + q.val; omega
  refine (congrArg (sM2.view.read (Elt Ideal) (sM2.view.writes (Elt Ideal) sM2.view.junk (tripMid.sl.Hd2_10 c I k hq2 d2))) e).trans ?_
  refine (rows2_8 R k hq2 C _ _ _ (by show (8 ≤ 8 + i.val ∧ 8 + i.val < 10) ∨ (10 ≤ 8 + i.val ∧ 8 + i.val < 522 ∧ 2048 + q.val < 2304); omega)).trans ?_
  show D.past (512 * k.val + (8 + i.val - 8)) 2 (2048 + q.val) = _
  rw [Nat.add_sub_cancel_left]
theorem one_back_8 (i : Fin 512) (q : Fin 256) : tripMid.sl.v454_r0 c I k hq2 d1 (ix2 i q) = D.past (512 * k.val + i) 1 (2048 + q) := by
  have e : (Rect.unit (s := S528x2816) ![8, 2048] S512x256.size inb_S528x2816_S512x256_8_2048).toLoadRect.idx (ix2 i q) = ix2 (⟨8 + i.val, by omega⟩ : Fin 528) (⟨2048 + q.val, by omega⟩ : Fin 2816) := by
    funext x; refine Fin.ext ?_; fin_cases x
    · show 8 + 1 * i.val = 8 + i.val; omega
    · show 2048 + 1 * q.val = 2048 + q.val; omega
  refine (congrArg (sM1.view.read (Elt Ideal) (sM1.view.writes (Elt Ideal) sM1.view.junk (tripMid.sl.Hd1_10 c I k hq2 d1))) e).trans ?_
  refine (rows1_8 R k hq2 C _ _ _ (by show 8 + i.val = 8 ∨ (9 ≤ 8 + i.val ∧ 8 + i.val < 521 ∧ 2048 + q.val < 2304); omega)).trans ?_
  show D.past (512 * k.val + (8 + i.val - 8)) 1 (2048 + q.val) = _
  rw [Nat.add_sub_cancel_left]
theorem act_eq_8 (i : Fin 512) (q : Fin 256) :
    k0_pay67 (tripMid.sl.r_39 c I k hq2) (tripMid.sl.r_40 c I k hq2) (tripMid.sl.r_41 c I) (tripMid.sl.v450_r0 c I k hq2 d2) (tripMid.sl.r_42 c I) (tripMid.sl.v454_r0 c I k hq2 d1)
      (View.readAt (Elt Ideal) (Memref.whole cc0_stg5_0).view (Rect.unit (s := S1x2816) ![0, 2048] S1x256.size inb_S1x2816_S1x256_0_2048).toLoadRect I.a6) (ix2 i q)
      = D.act (512 * k.val + i) (2048 + q) :=
  pay11_eq D _ i q 2048 _ _ _ _ _ _ _ (a_eq_8 R k hq2 i q) (v_eq_8 R k hq2 i q) (fun t => w_eq_8 R t q) (two_back_8 R k hq2 C i q)
    (w0_eq_8 R q) (one_back_8 R k hq2 C i q) (rd6 R 2048 _ q)

theorem two_back_9 (i : Fin 512) (q : Fin 256) : tripMid.sl.v487_r0 c I k hq2 d2 (ix2 i q) = D.past (512 * k.val + i) 2 (2304 + q) := by
  have e : (Rect.unit (s := S528x2816) ![8, 2304] S512x256.size inb_S528x2816_S512x256_8_2304).toLoadRect.idx (ix2 i q) = ix2 (⟨8 + i.val, by omega⟩ : Fin 528) (⟨2304 + q.val, by omega⟩ : Fin 2816) := by
    funext x; refine Fin.ext ?_; fin_cases x
    · show 8 + 1 * i.val = 8 + i.val; omega
    · show 2304 + 1 * q.val = 2304 + q.val; omega
  refine (congrArg (sM2.view.read (Elt Ideal) (sM2.view.writes (Elt Ideal) sM2.view.junk (tripMid.sl.Hd2_11 c I k hq2 d2))) e).trans ?_
  refine (rows2_9 R k hq2 C _ _ _ (by show (8 ≤ 8 + i.val ∧ 8 + i.val < 10) ∨ (10 ≤ 8 + i.val ∧ 8 + i.val < 522 ∧ 2304 + q.val < 2560); omega)).trans ?_
  show D.past (512 * k.val + (8 + i.val - 8)) 2 (2304 + q.val) = _
  rw [Nat.add_sub_cancel_left]
theorem one_back_9 (i : Fin 512) (q : Fin 256) : tripMid.sl.v491_r0 c I k hq2 d1 (ix2 i q) = D.past (512 * k.val + i) 1 (2304 + q) := by
  have e : (Rect.unit (s := S528x2816) ![8, 2304] S512x256.size inb_S528x2816_S512x256_8_2304).toLoadRect.idx (ix2 i q) = ix2 (⟨8 + i.val, by omega⟩ : Fin 528) (⟨2304 + q.val, by omega⟩ : Fin 2816) := by
    funext x; refine Fin.ext ?_; fin_cases x
    · show 8 + 1 * i.val = 8 + i.val; omega
    · show 2304 + 1 * q.val = 2304 + q.val; omega
  refine (congrArg (sM1.view.read (Elt Ideal) (sM1.view.writes (Elt Ideal) sM1.view.junk (tripMid.sl.Hd1_11 c I k hq2 d1))) e).trans ?_
  refine (rows1_9 R k hq2 C _ _ _ (by show 8 + i.val = 8 ∨ (9 ≤ 8 + i.val ∧ 8 + i.val < 521 ∧ 2304 + q.val < 2560); omega)).trans ?_
  show D.past (512 * k.val + (8 + i.val - 8)) 1 (2304 + q.val) = _
  rw [Nat.add_sub_cancel_left]
theorem act_eq_9 (i : Fin 512) (q : Fin 256) :
    k0_pay74 (tripMid.sl.r_43 c I k hq2) (tripMid.sl.r_44 c I k hq2) (tripMid.sl.r_45 c I) (tripMid.sl.v487_r0 c I k hq2 d2) (tripMid.sl.r_46 c I) (tripMid.sl.v491_r0 c I k hq2 d1)
      (View.readAt (Elt Ideal) (Memref.whole cc0_stg5_0).view (Rect.unit (s := S1x2816) ![0, 2304] S1x256.size inb_S1x2816_S1x256_0_2304).toLoadRect I.a6) (ix2 i q)
      = D.act (512 * k.val + i) (2304 + q) :=
  pay11_eq D _ i q 2304 _ _ _ _ _ _ _ (a_eq_9 R k hq2 i q) (v_eq_9 R k hq2 i q) (fun t => w_eq_9 R t q) (two_back_9 R k hq2 C i q)
    (w0_eq_9 R q) (one_back_9 R k hq2 C i q) (rd6 R 2304 _ q)

theorem two_back_10 (i : Fin 512) (q : Fin 256) : tripMid.sl.v524_r0 c I k hq2 d2 (ix2 i q) = D.past (512 * k.val + i) 2 (2560 + q) := by
  have e : (Rect.unit (s := S528x2816) ![8, 2560] S512x256.size inb_S528x2816_S512x256_8_2560).toLoadRect.idx (ix2 i q) = ix2 (⟨8 + i.val, by omega⟩ : Fin 528) (⟨2560 + q.val, by omega⟩ : Fin 2816) := by
    funext x; refine Fin.ext ?_; fin_cases x
    · show 8 + 1 * i.val = 8 + i.val; omega
    · show 2560 + 1 * q.val = 2560 + q.val; omega
  refine (congrArg (sM2.view.read (Elt Ideal) (sM2.view.writes (Elt Ideal) sM2.view.junk (tripMid.sl.Hd2_12 c I k hq2 d2))) e).trans ?_
  refine (rows2_10 R k hq2 C _ _ _ (by show (8 ≤ 8 + i.val ∧ 8 + i.val < 10) ∨ (10 ≤ 8 + i.val ∧ 8 + i.val < 522 ∧ 2560 + q.val < 2816); omega)).trans ?_
  show D.past (512 * k.val + (8 + i.val - 8)) 2 (2560 + q.val) = _
  rw [Nat.add_sub_cancel_left]
theorem one_back_10 (i : Fin 512) (q : Fin 256) : tripMid.sl.v528_r0 c I k hq2 d1 (ix2 i q) = D.past (512 * k.val + i) 1 (2560 + q) := by
  have e : (Rect.unit (s := S528x2816) ![8, 2560] S512x256.size inb_S528x2816_S512x256_8_2560).toLoadRect.idx (ix2 i q) = ix2 (⟨8 + i.val, by omega⟩ : Fin 528) (⟨2560 + q.val, by omega⟩ : Fin 2816) := by
    funext x; refine Fin.ext ?_; fin_cases x
    · show 8 + 1 * i.val = 8 + i.val; omega
    · show 2560 + 1 * q.val = 2560 + q.val; omega
  refine (congrArg (sM1.view.read (Elt Ideal) (sM1.view.writes (Elt Ideal) sM1.view.junk (tripMid.sl.Hd1_12 c I k hq2 d1))) e).trans ?_
  refine (rows1_10 R k hq2 C _ _ _ (by show 8 + i.val = 8 ∨ (9 ≤ 8 + i.val ∧ 8 + i.val < 521 ∧ 2560 + q.val < 2816); omega)).trans ?_
  show D.past (512 * k.val + (8 + i.val - 8)) 1 (2560 + q.val) = _
  rw [Nat.add_sub_cancel_left]
theorem act_eq_10 (i : Fin 512) (q : Fin 256) :
    k0_pay81 (tripMid.sl.r_47 c I k hq2) (tripMid.sl.r_48 c I k hq2) (tripMid.sl.r_49 c I) (tripMid.sl.v524_r0 c I k hq2 d2) (tripMid.sl.r_50 c I) (tripMid.sl.v528_r0 c I k hq2 d1)
      (View.readAt (Elt Ideal) (Memref.whole cc0_stg5_0).view (Rect.unit (s := S1x2816) ![0, 2560] S1x256.size inb_S1x2816_S1x256_0_2560).toLoadRect I.a6) (ix2 i q)
      = D.act (512 * k.val + i) (2560 + q) :=
  pay11_eq D _ i q 2560 _ _ _ _ _ _ _ (a_eq_10 R k hq2 i q) (v_eq_10 R k hq2 i q) (fun t => w_eq_10 R t q) (two_back_10 R k hq2 C i q)
    (w0_eq_10 R q) (one_back_10 R k hq2 C i q) (rd6 R 2560 _ q)

/-- The activation buffer holds the tile's activations. -/
theorem acts (f) (y0 : Fin 512) (y1 : Fin 2816) :
    sM3.view.read (Elt Ideal) (sM3.view.writes (Elt Ideal) f (tripMid.sl.Hd3_11 c I k hq2 d1 d2)) (ix2 y0 y1) = D.act (512 * k.val + y0) y1 := by
  rw [tripMid.sl.Hd3_11]
  refine read_step sM3.view f 0 2560 512 256 inb_S512x2816_S512x256_0_2560 _ _ y0 y1 _ (fun i q h0 h1 => ?_) (fun n10 => ?_)
  · rw [h1, show y0.val = i.val from by omega]; exact act_eq_10 R k hq2 C i q
  refine read_step sM3.view f 0 2304 512 256 inb_S512x2816_S512x256_0_2304 _ _ y0 y1 _ (fun i q h0 h1 => ?_) (fun n9 => ?_)
  · rw [h1, show y0.val = i.val from by omega]; exact act_eq_9 R k hq2 C i q
  refine read_step sM3.view f 0 2048 512 256 inb_S512x2816_S512x256_0_2048 _ _ y0 y1 _ (fun i q h0 h1 => ?_) (fun n8 => ?_)
  · rw [h1, show y0.val = i.val from by omega]; exact act_eq_8 R k hq2 C i q
  refine read_step sM3.view f 0 1792 512 256 inb_S512x2816_S512x256_0_1792 _ _ y0 y1 _ (fun i q h0 h1 => ?_) (fun n7 => ?_)
  · rw [h1, show y0.val = i.val from by omega]; exact act_eq_7 R k hq2 C i q
  refine read_step sM3.view f 0 1536 512 256 inb_S512x2816_S512x256_0_1536 _ _ y0 y1 _ (fun i q h0 h1 => ?_) (fun n6 => ?_)
  · rw [h1, show y0.val = i.val from by omega]; exact act_eq_6 R k hq2 C i q
  refine read_step sM3.view f 0 1280 512 256 inb_S512x2816_S512x256_0_1280 _ _ y0 y1 _ (fun i q h0 h1 => ?_) (fun n5 => ?_)
  · rw [h1, show y0.val = i.val from by omega]; exact act_eq_5 R k hq2 C i q
  refine read_step sM3.view f 0 1024 512 256 inb_S512x2816_S512x256_0_1024 _ _ y0 y1 _ (fun i q h0 h1 => ?_) (fun n4 => ?_)
  · rw [h1, show y0.val = i.val from by omega]; exact act_eq_4 R k hq2 C i q
  refine read_step sM3.view f 0 768 512 256 inb_S512x2816_S512x256_0_768 _ _ y0 y1 _ (fun i q h0 h1 => ?_) (fun n3 => ?_)
  · rw [h1, show y0.val = i.val from by omega]; exact act_eq_3 R k hq2 C i q
  refine read_step sM3.view f 0 512 512 256 inb_S512x2816_S512x256_0_512 _ _ y0 y1 _ (fun i q h0 h1 => ?_) (fun n2 => ?_)
  · rw [h1, show y0.val = i.val from by omega]; exact act_eq_2 R k hq2 C i q
  refine read_step sM3.view f 0 256 512 256 inb_S512x2816_S512x256_0_256 _ _ y0 y1 _ (fun i q h0 h1 => ?_) (fun n1 => ?_)
  · rw [h1, show y0.val = i.val from by omega]; exact act_eq_1 R k hq2 C i q
  refine read_step sM3.view f 0 0 512 256 inb_S512x2816_S512x256_0_0 _ _ y0 y1 _ (fun i q h0 h1 => ?_) (fun n0 => absurd (show _ from ⟨⟨by omega, by omega⟩, by omega, by omega⟩) n0)
  · rw [h1, show y0.val = i.val from by omega]; exact act_eq_0 R k hq2 C i q

/-- After the trip the row buffers carry what the next one needs. -/
theorem carry_next : Carry (c := c) D (k.val + 1) (sM1.view.writes (Elt Ideal) d1 (pcs1 c I k hq2 d1)) (sM2.view.writes (Elt Ideal) d2 (pcs2 c I k hq2 d2)) := by
  refine ⟨fun q => ?_, fun q => ?_, fun q => ?_⟩
  · exact (rows1_10 R k hq2 C d1 520 q (Or.inr ⟨by decide, by decide, q.isLt⟩)).trans (congrArg (fun n => D.past n 1 q.val) (show 512 * k.val + 512 = _ by omega))
  · exact (rows2_10 R k hq2 C d2 520 q (Or.inr ⟨by decide, by decide, q.isLt⟩)).trans (congrArg (fun n => D.past n 2 q.val) (show 512 * k.val + 512 = _ by omega))
  · exact (rows2_10 R k hq2 C d2 521 q (Or.inr ⟨by decide, by decide, q.isLt⟩)).trans (congrArg (fun n => D.past n 2 q.val) (show 512 * k.val + 513 = _ by omega))
end Rows

end Cert.Proof.Ffn
end
-- ==== Proof.Value4.lean ====
module

public import proofs.«01_k».proof.Proof.Value3
public import Idealize.ShloMosaic.Lib.Pointwise

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## A tile of the result -/

section Tile
variable {c : Dev nD} {I : Inp Ideal c} {D : Arr} (R : Reads I D) (k : Fin k0_t1_loop.trips) (hq2 : k0_chk2 (wd k.val))
variable {d1 : Buf (Elt Ideal) (sM1.view.loc (c : Thread nD τ))} {d2 : Buf (Elt Ideal) (sM2.view.loc (c : Thread nD τ))} (C : Carry D k.val d1 d2)
include R

theorem r51_eq (d : Fin 1024) : tripMid.sl.r_51 c I (ix2 0 d) = D.gf d := by
  rw [tripMid.sl.r_51]
  refine Eq.trans ?_ (rd8 R inb_S1024_S1024_0 d)
  pointwise [k0_pay82]
theorem r53_eq (d : Fin 1024) : tripMid.sl.r_53 c I (ix2 0 d) = 1 + D.fm (1024 + d) := by
  rw [tripMid.sl.r_53, ← r4_eq R d]
  pointwise [k0_pay84]

include C
theorem upper_acts (i : Fin 256) (f : Fin 2816) : tripMid.sl.v547_r0 c I k hq2 d1 d2 (ix2 i f) = D.act (512 * k.val + i) f := by
  have e : (Rect.unit (s := S512x2816) ![0, 0] S256x2816.size inb_S512x2816_S256x2816_0_0).toLoadRect.idx (ix2 i f) = ix2 (⟨i.val, by omega⟩ : Fin 512) f := by
    funext x; refine Fin.ext ?_; fin_cases x
    · show 0 + 1 * i.val = i.val; omega
    · show 0 + 1 * f.val = f.val; omega
  exact (congrArg (sM3.view.read (Elt Ideal) (sM3.view.writes (Elt Ideal) sM3.view.junk (tripMid.sl.Hd3_11 c I k hq2 d1 d2))) e).trans (acts R k hq2 C _ _ _)
theorem lower_acts (i : Fin 256) (f : Fin 2816) : tripMid.sl.v577_r0 c I k hq2 d1 d2 (ix2 i f) = D.act (512 * k.val + 256 + i) f := by
  have e : (Rect.unit (s := S512x2816) ![256, 0] S256x2816.size inb_S512x2816_S256x2816_256_0).toLoadRect.idx (ix2 i f) = ix2 (⟨256 + i.val, by omega⟩ : Fin 512) f := by
    funext x; refine Fin.ext ?_; fin_cases x
    · show 256 + 1 * i.val = 256 + i.val; omega
    · show 0 + 1 * f.val = f.val; omega
  refine (congrArg (sM3.view.read (Elt Ideal) (sM3.view.writes (Elt Ideal) sM3.view.junk (tripMid.sl.Hd3_11 c I k hq2 d1 d2))) e).trans ((acts R k hq2 C _ _ _).trans ?_)
  show D.act (512 * k.val + (256 + i.val)) f.val = _
  rw [Nat.add_assoc]

theorem tile_out (y0 : Fin 512) (y1 : Fin 1024) : View.canon (pcsW c I k hq2 d1 d2) (ix2 y0 y1) = D.out (512 * k.val + y0) y1 := by
  rw [← View.read_writes_junk_eq_canon (xblk 0).view, pcsW, tripMid.sl.HW1_2]
  refine read_step (xblk 0).view _ 256 0 256 1024 inb_S512x1024_S256x1024_256_0 _ _ y0 y1 _ (fun i d h0 h1 => ?_) (fun n1 => ?_)
  · obtain rfl : y1 = d := Fin.ext (by omega)
    rw [show 512 * k.val + y0.val = 512 * k.val + 256 + i.val from by omega]
    exact pay86_eq D _ i y1 _ _ _ _ _ _ _ (r2_eq R) (r3_eq R) (r4_eq R)
      (fun d => (r5_eq R k hq2 ⟨256 + i.val, by omega⟩ d).trans (congrArg (fun n => D.X n d.val) (show 512 * k.val + (256 + i.val) = _ by omega)))
      (lower_acts R k hq2 C i) (fun f d => rd7 R _ f d) (rd8 R _)
  refine read_step (xblk 0).view _ 0 0 256 1024 inb_S512x1024_S256x1024_0_0 _ _ y0 y1 _ (fun i d h0 h1 => ?_) (fun n0 => absurd (show _ from ⟨⟨by omega, by omega⟩, by omega, by omega⟩) n0)
  obtain rfl : y1 = d := Fin.ext (by omega)
  rw [show y0.val = i.val from by omega]
  have e : tripMid.sl.r_52 c I k hq2 d1 d2 (ix2 i y1) = D.res (512 * k.val + i) y1 * Arr.inv (D.res (512 * k.val + i)) := by
    rw [tripMid.sl.r_52]
    exact pay83_eq D _ i y1 _ _ _ _ (r2_eq R) (fun d => r5_eq R k hq2 ⟨i.val, by omega⟩ d) (upper_acts R k hq2 C i) (fun f d => rd7 R _ f d)
  pointwise [k0_pay85]
  rw [e, r51_eq R, r53_eq R, r3_eq R]
  rfl
end Tile

section Result
variable {c : Dev nD} {I : Inp Ideal c} {D : Arr} (R : Reads I D)
variable (g1 : Buf (Elt Ideal) (sM1.view.loc (c : Thread nD τ))) (g2 : Buf (Elt Ideal) (sM2.view.loc (c : Thread nD τ)))

/-- Before the first trip the carried rows are zero. -/
theorem carry_start : Carry (c := c) D 0 (zero1 c g1) (zero2 c g2) := by
  have z1 : ∀ q : Fin 2816, sM1.view.read (Elt Ideal) (zero1 c g1) (ix2 520 q) = 0 := fun q =>
    read_step sM1.view g1 520 0 8 2816 inb_S528x2816_S8x2816_520_0 _ _ 520 q _ (fun i d _ _ => by pointwise [k0_pay87])
      (fun n => absurd ⟨⟨by decide, by decide⟩, by omega, by omega⟩ n)
  have z2 : ∀ (r : Fin 528) (q : Fin 2816), 520 ≤ r.val → sM2.view.read (Elt Ideal) (zero2 c g2) (ix2 r q) = 0 := fun r q hr =>
    read_step sM2.view g2 520 0 8 2816 inb_S528x2816_S8x2816_520_0 _ _ r q _ (fun i d _ _ => by pointwise [k0_pay88])
      (fun n => absurd ⟨⟨by omega, by omega⟩, by omega, by omega⟩ n)
  refine ⟨fun q => (z1 q).trans ?_, fun q => (z2 520 q (by decide)).trans ?_, fun q => (z2 521 q (by decide)).trans ?_⟩ <;>
    exact (if_neg (by omega)).symm

theorem carry_of_eq {n : ℕ} (p : Buf (Elt Ideal) (sM1.view.loc (c : Thread nD τ)) × Buf (Elt Ideal) (sM2.view.loc (c : Thread nD τ))) (a b) (h : p = (a, b))
    (H : Carry (c := c) D n a b) : Carry (c := c) D n p.1 p.2 := by
  subst h; exact H

include R in
theorem carry_all (n : ℕ) (h : n ≤ 32) : Carry (c := c) D n (st c I (zero1 c g1) (zero2 c g2) n).1 (st c I (zero1 c g1) (zero2 c g2) n).2 := by
  induction n with
  | zero => exact carry_start g1 g2
  | succ n ih =>
    have hn : n < k0_t1_loop.trips := Nat.lt_of_lt_of_eq (show n < 32 by omega) trips_eq.symm
    obtain ⟨k, rfl⟩ : ∃ k : Fin k0_t1_loop.trips, n = k.val := ⟨⟨n, hn⟩, rfl⟩
    exact carry_of_eq _ _ _ (st_succ c I _ _ k) (carry_next R k (chk2_trip k) (ih (by omega)))

include R in
theorem tile_eq (b : Fin 32) (i : Fin 512) (d : Fin 1024) : tile c I (zero1 c g1) (zero2 c g2) b (ix2 i d) = D.out (512 * b.val + i) d := by
  obtain ⟨k, hk⟩ : ∃ k : Fin k0_t1_loop.trips, k.val = b.val := ⟨b.cast trips_eq.symm, rfl⟩
  have hb : b = Ring.bk 32 k.val := Fin.ext (by rw [Ring.bk_val (by omega), hk])
  rw [← hk, hb, tile_trip]
  exact tile_out R k _ (carry_all R g1 g2 k.val (by omega)) i d

include R in
/-- The whole result array. -/
theorem result_eq (g : Buf (Elt Ideal) (oM.view.loc (c : Thread nD τ))) (h : Holds c I g1 g2 g) (n : Fin 16384) (d : Fin 1024) :
    (g : S16384x1024.Idx → EReal) (ix2 n d) = D.out n d := by
  have e := congrFun (h ⟨n.val / 512, by omega⟩) (ix2 (⟨n.val % 512, by omega⟩ : Fin 512) d)
  rw [tile_eq R g1 g2] at e
  have e2 : 512 * (n.val / 512) + n.val % 512 = n.val := Nat.div_add_mod ..
  refine Eq.trans ?_ (e.trans (congrArg (fun n => D.out n d.val) e2))
  refine congrArg (g : S16384x1024.Idx → EReal) (funext fun a => Fin.ext ?_)
  fin_cases a
  · show n.val = 512 * (n.val / 512) + 1 * (n.val % 512); omega
  · show d.val = 0 + 1 * d.val; omega
end Result

end Cert.Proof.Ffn
end
-- ==== Proof.Ref.lean ====
module

public import proofs.«01_k».proof.Proof.Value1
public import proofs.«01_k».proof.Proof.Gen.ReferenceIdeal.Run
public import Idealize.ShloMosaic.Lib.Pointwise

@[expose] public section

set_option maxRecDepth 16384

noncomputable section

namespace Cert.Proof.Ffn.Ref

open Cert.ReferenceIdeal Cert.ReferenceIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The reference in six stages -/

/-- The normalised and modulated input. -/
def hid (x : FVec Ideal S1x16384x1024 .f32) (md : FVec Ideal S1x3072 .f32) (g : FVec Ideal S1x1024 .f32) : FVec Ideal S1x16384x1024 .f32 :=
  addf (mulf (mulf (mulf x (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf x x) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32)))))) (broadcastInDim S1x16384x1024 ![0, 1, 2] bcast_S1x1x1024_S1x16384x1024_0_1_2 (broadcastInDim S1x1x1024 ![2] bcast_S1024_S1x1x1024_2 (shapeCast _ g shapeCasts_S1x1024_S1024)))) (broadcastInDim S1x16384x1024 ![0, 1, 2] bcast_S1x1x1024_S1x16384x1024_0_1_2 (addf (broadcastInDim S1x1x1024 ![] bcast_S_S1x1x1024 (constant S_ .f32 0x3F800000#32)) (broadcastInDim S1x1x1024 ![0, 2] bcast_S1x1024_S1x1x1024_0_2 (shapeCast _ (extractStridedSlice S1x1x1024 ![0, 1, 0] (shapeCast _ md shapeCasts_S1x3072_S1x3x1024) slices_S1x3x1024_S1x1x1024_0_1_0) shapeCasts_S1x1x1024_S1x1024))))) (broadcastInDim S1x16384x1024 ![0, 1, 2] bcast_S1x1x1024_S1x16384x1024_0_1_2 (broadcastInDim S1x1x1024 ![0, 2] bcast_S1x1024_S1x1x1024_0_2 (shapeCast _ (extractStridedSlice S1x1x1024 ![0, 0, 0] (shapeCast _ md shapeCasts_S1x3072_S1x3x1024) slices_S1x3x1024_S1x1x1024_0_0_0) shapeCasts_S1x1x1024_S1x1024)))
/-- The up projection. -/
def up (h : FVec Ideal S1x16384x1024 .f32) (wu : FVec Ideal S1x1024x5632 .f32) : FVec Ideal S1x16384x5632 .f32 :=
  Host.dotGeneral dot_S1x16384x1024_S1024x5632_S1x16384x5632_2_0_01_1_n_n none h (shapeCast _ wu shapeCasts_S1x1024x5632_S1024x5632)
/-- The causal convolution of the gate's half. -/
def conv (u : FVec Ideal S1x16384x5632 .f32) (cw : FVec Ideal S1x3x2816 .f32) (cb : FVec Ideal S1x2816 .f32) : FVec Ideal S1x16384x2816 .f32 :=
  addf (addf (addf (mulf (extractStridedSlice S1x16384x2816 ![0, 0, 0] (pad S1x16386x2816 ![0, 2, 0] ![0, 0, 0] ![0, 0, 0] (extractStridedSlice S1x16384x2816 ![0, 0, 0] u slices_S1x16384x5632_S1x16384x2816_0_0_0) (sitofp .f32 (constantI S_ 32 0#32)) pads_S1x16384x2816_S1x16386x2816_000_200_000 h_S_) slices_S1x16386x2816_S1x16384x2816_0_0_0) (broadcastInDim S1x16384x2816 ![0, 1, 2] bcast_S1x1x2816_S1x16384x2816_0_1_2 (broadcastInDim S1x1x2816 ![2] bcast_S2816_S1x1x2816_2 (shapeCast _ (extractStridedSlice S1x2816 ![0, 0] (shapeCast _ cw shapeCasts_S1x3x2816_S3x2816) slices_S3x2816_S1x2816_0_0) shapeCasts_S1x2816_S2816)))) (mulf (extractStridedSlice S1x16384x2816 ![0, 1, 0] (pad S1x16386x2816 ![0, 2, 0] ![0, 0, 0] ![0, 0, 0] (extractStridedSlice S1x16384x2816 ![0, 0, 0] u slices_S1x16384x5632_S1x16384x2816_0_0_0) (sitofp .f32 (constantI S_ 32 0#32)) pads_S1x16384x2816_S1x16386x2816_000_200_000 h_S_) slices_S1x16386x2816_S1x16384x2816_0_1_0) (broadcastInDim S1x16384x2816 ![0, 1, 2] bcast_S1x1x2816_S1x16384x2816_0_1_2 (broadcastInDim S1x1x2816 ![2] bcast_S2816_S1x1x2816_2 (shapeCast _ (extractStridedSlice S1x2816 ![1, 0] (shapeCast _ cw shapeCasts_S1x3x2816_S3x2816) slices_S3x2816_S1x2816_1_0) shapeCasts_S1x2816_S2816))))) (mulf (extractStridedSlice S1x16384x2816 ![0, 2, 0] (pad S1x16386x2816 ![0, 2, 0] ![0, 0, 0] ![0, 0, 0] (extractStridedSlice S1x16384x2816 ![0, 0, 0] u slices_S1x16384x5632_S1x16384x2816_0_0_0) (sitofp .f32 (constantI S_ 32 0#32)) pads_S1x16384x2816_S1x16386x2816_000_200_000 h_S_) slices_S1x16386x2816_S1x16384x2816_0_2_0) (broadcastInDim S1x16384x2816 ![0, 1, 2] bcast_S1x1x2816_S1x16384x2816_0_1_2 (broadcastInDim S1x1x2816 ![2] bcast_S2816_S1x1x2816_2 (shapeCast _ (extractStridedSlice S1x2816 ![2, 0] (shapeCast _ cw shapeCasts_S1x3x2816_S3x2816) slices_S3x2816_S1x2816_2_0) shapeCasts_S1x2816_S2816))))) (broadcastInDim S1x16384x2816 ![0, 1, 2] bcast_S1x1x2816_S1x16384x2816_0_1_2 (broadcastInDim S1x1x2816 ![2] bcast_S2816_S1x1x2816_2 (shapeCast _ cb shapeCasts_S1x2816_S2816)))
def act (u : FVec Ideal S1x16384x5632 .f32) (y : FVec Ideal S1x16384x2816 .f32) : FVec Ideal S1x16384x2816 .f32 :=
  mulf (mulf y (Host.divf (broadcastInDim S1x16384x2816 ![] bcast_S_S1x16384x2816 (constant S_ .f32 0x3F800000#32)) (addf (broadcastInDim S1x16384x2816 ![] bcast_S_S1x16384x2816 (constant S_ .f32 0x3F800000#32)) (Host.exp (Host.negf y))))) (extractStridedSlice S1x16384x2816 ![0, 0, 2816] u slices_S1x16384x5632_S1x16384x2816_0_0_2816)
/-- The block's output added to its input. -/
def res (x : FVec Ideal S1x16384x1024 .f32) (md : FVec Ideal S1x3072 .f32) (ac : FVec Ideal S1x16384x2816 .f32) (wd : FVec Ideal S1x2816x1024 .f32) : FVec Ideal S1x16384x1024 .f32 :=
  addf x (mulf (broadcastInDim S1x16384x1024 ![0, 1, 2] bcast_S1x1x1024_S1x16384x1024_0_1_2 (broadcastInDim S1x1x1024 ![0, 2] bcast_S1x1024_S1x1x1024_0_2 (shapeCast _ (extractStridedSlice S1x1x1024 ![0, 2, 0] (shapeCast _ md shapeCasts_S1x3072_S1x3x1024) slices_S1x3x1024_S1x1x1024_0_2_0) shapeCasts_S1x1x1024_S1x1024))) (Host.dotGeneral dot_S1x16384x2816_S2816x1024_S1x16384x1024_2_0_01_1_n_n none ac (shapeCast _ wd shapeCasts_S1x2816x1024_S2816x1024)))
/-- The final norm. -/
def out (r : FVec Ideal S1x16384x1024 .f32) (fm : FVec Ideal S1x2048 .f32) (gf : FVec Ideal S1024 .f32) : FVec Ideal S16384x1024 .f32 :=
  shapeCast _ (addf (mulf (mulf (mulf r (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf r r) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32)))))) (broadcastInDim S1x16384x1024 ![0, 1, 2] bcast_S1x1x1024_S1x16384x1024_0_1_2 (broadcastInDim S1x1x1024 ![2] bcast_S1024_S1x1x1024_2 gf))) (broadcastInDim S1x16384x1024 ![0, 1, 2] bcast_S1x1x1024_S1x16384x1024_0_1_2 (addf (broadcastInDim S1x1x1024 ![] bcast_S_S1x1x1024 (constant S_ .f32 0x3F800000#32)) (broadcastInDim S1x1x1024 ![0, 2] bcast_S1x1024_S1x1x1024_0_2 (shapeCast _ (extractStridedSlice S1x1x1024 ![0, 1, 0] (shapeCast _ fm shapeCasts_S1x2048_S1x2x1024) slices_S1x2x1024_S1x1x1024_0_1_0) shapeCasts_S1x1x1024_S1x1024))))) (broadcastInDim S1x16384x1024 ![0, 1, 2] bcast_S1x1x1024_S1x16384x1024_0_1_2 (broadcastInDim S1x1x1024 ![0, 2] bcast_S1x1024_S1x1x1024_0_2 (shapeCast _ (extractStridedSlice S1x1x1024 ![0, 0, 0] (shapeCast _ fm shapeCasts_S1x2048_S1x2x1024) slices_S1x2x1024_S1x1x1024_0_0_0) shapeCasts_S1x1x1024_S1x1024)))) shapeCasts_S1x16384x1024_S16384x1024

/-- The reference's result is the stages in turn. -/
theorem res_eq (m : (ℓ : Loc nD τ sig) → Buf (Elt Ideal) ℓ) (c : Dev nD) :
    Cert.ReferenceIdeal.Value.res_main_v93 m c =
      (let x : FVec Ideal S1x16384x1024 .f32 := m ((c.tc : Thread nD τ).loc main_arg0)
       let md : FVec Ideal S1x3072 .f32 := m ((c.tc : Thread nD τ).loc main_arg1)
       let u := up (hid x md (m ((c.tc : Thread nD τ).loc main_arg3))) (m ((c.tc : Thread nD τ).loc main_arg4))
       out (res x md (act u (conv u (m ((c.tc : Thread nD τ).loc main_arg5)) (m ((c.tc : Thread nD τ).loc main_arg6)))) (m ((c.tc : Thread nD τ).loc main_arg7)))
         (m ((c.tc : Thread nD τ).loc main_arg2)) (m ((c.tc : Thread nD τ).loc main_arg8))) := by
  unfold Cert.ReferenceIdeal.Value.res_main_v93 out res act conv up hid
  rfl

/-! ## The stages at an index -/

section Stages
variable {D : Arr}

theorem hid_apply (x md g) (hx : ∀ (n : Fin 16384) (d : Fin 1024), x (ix3 0 n d) = D.X n d) (hm : ∀ d : Fin 3072, md (ix2 0 d) = D.mod d)
    (hg : ∀ d : Fin 1024, g (ix2 0 d) = D.g d) (n : Fin 16384) (d : Fin 1024) : hid x md g (ix3 0 n d) = D.hid n d := by
  pointwise [hid]
  simp only [hx, hm, hg]
  rw [mul_assoc (_ * _) (D.g d)]
  rfl

theorem up_apply (h wu) (hh : ∀ (n : Fin 16384) (d : Fin 1024), h (ix3 0 n d) = D.hid n d)
    (hw : ∀ (x : Fin 1024) (f : Fin 5632), wu (ix3 0 x f) = D.wu x f) (n : Fin 16384) (f : Fin 5632) : up h wu (ix3 0 n f) = D.up n f := by
  pointwise [up]
  simp only [hh, hw]
  rfl

theorem zero_word : (FloatOps.sitofp FTy.f32 0#32 : Ideal FTy.f32) = (0 : EReal) := by
  show (((0#32 : BitVec 32).toInt : ℝ) : EReal) = 0
  simp

theorem conv_apply (u cw cb) (hu : ∀ (n : Fin 16384) (f : Fin 5632), u (ix3 0 n f) = D.up n f)
    (hw : ∀ (t : Fin 3) (q : Fin 2816), cw (ix3 0 t q) = D.cw t q) (hb : ∀ q : Fin 2816, cb (ix2 0 q) = D.cb q)
    (n : Fin 16384) (f : Fin 2816) : conv u cw cb (ix3 0 n f) = D.conv n f := by
  pointwise [conv]
  simp only [hu, hw, hb, zero_word]
  have e2 : (if h : 2 ≤ n.val ∧ n.val - 2 < 16384 then D.up (n.val - 2) f.val else 0) = D.past n.val 2 f := by
    unfold Arr.past
    by_cases h : 2 ≤ n.val
    · rw [dif_pos ⟨h, by omega⟩, if_pos h]
    · rw [dif_neg (by omega), if_neg h]
  have e1 : (if h : 2 ≤ 1 + n.val ∧ 1 + n.val - 2 < 16384 then D.up (1 + n.val - 2) f.val else 0) = D.past n.val 1 f := by
    unfold Arr.past
    by_cases h : 1 ≤ n.val
    · rw [dif_pos (by omega), if_pos h, show 1 + n.val - 2 = n.val - 1 from by omega]
    · rw [dif_neg (by omega), if_neg h]
  rw [e2, e1]
  rfl

theorem act_apply (u y) (hu : ∀ (n : Fin 16384) (f : Fin 5632), u (ix3 0 n f) = D.up n f)
    (hy : ∀ (n : Fin 16384) (f : Fin 2816), y (ix3 0 n f) = D.conv n f) (n : Fin 16384) (f : Fin 2816) : act u y (ix3 0 n f) = D.act n f := by
  pointwise [act]
  simp only [hu, hy]
  rfl

theorem res_apply (x md ac wd) (hx : ∀ (n : Fin 16384) (d : Fin 1024), x (ix3 0 n d) = D.X n d) (hm : ∀ d : Fin 3072, md (ix2 0 d) = D.mod d)
    (ha : ∀ (n : Fin 16384) (f : Fin 2816), ac (ix3 0 n f) = D.act n f) (hw : ∀ (x : Fin 2816) (d : Fin 1024), wd (ix3 0 x d) = D.wd x d)
    (n : Fin 16384) (d : Fin 1024) : res x md ac wd (ix3 0 n d) = D.res n d := by
  pointwise [res]
  simp only [hx, hm, ha, hw]
  rfl

theorem out_apply (r fm gf) (hr : ∀ (n : Fin 16384) (d : Fin 1024), r (ix3 0 n d) = D.res n d) (hf : ∀ d : Fin 2048, fm (ix2 0 d) = D.fm d)
    (hg : ∀ d : Fin 1024, gf (ix1 d) = D.gf d) (n : Fin 16384) (d : Fin 1024) : out r fm gf (ix2 n d) = D.out n d := by
  pointwise [out]
  simp only [hr, hf, hg]
  rw [mul_assoc (_ * _) (D.gf d)]
  rfl
end Stages

/-! ## The arrays of the arguments -/

def line {B : ℕ} (f : Fin B → EReal) (d : ℕ) : EReal := if h : d < B then f ⟨d, h⟩ else 0
def grid {A B : ℕ} (f : Fin A → Fin B → EReal) (n d : ℕ) : EReal := if h : n < A ∧ d < B then f ⟨n, h.1⟩ ⟨d, h.2⟩ else 0
theorem line_val {B : ℕ} (f : Fin B → EReal) (d : Fin B) : line f d.val = f d := dif_pos d.isLt
theorem grid_val {A B : ℕ} (f : Fin A → Fin B → EReal) (n : Fin A) (d : Fin B) : grid f n.val d.val = f n d := dif_pos ⟨n.isLt, d.isLt⟩

/-- The nine arguments as plain arrays. -/
def arrs (x : FVec Ideal S1x16384x1024 .f32) (md : FVec Ideal S1x3072 .f32) (fm : FVec Ideal S1x2048 .f32) (g : FVec Ideal S1x1024 .f32)
    (wu : FVec Ideal S1x1024x5632 .f32) (cw : FVec Ideal S1x3x2816 .f32) (cb : FVec Ideal S1x2816 .f32) (wd : FVec Ideal S1x2816x1024 .f32)
    (gf : FVec Ideal S1024 .f32) : Arr where
  X := grid fun (n : Fin 16384) (d : Fin 1024) => x (ix3 0 n d)
  mod := line fun d : Fin 3072 => md (ix2 0 d)
  fm := line fun d : Fin 2048 => fm (ix2 0 d)
  g := line fun d : Fin 1024 => g (ix2 0 d)
  wu := grid fun (n : Fin 1024) (d : Fin 5632) => wu (ix3 0 n d)
  cw := grid fun (n : Fin 3) (d : Fin 2816) => cw (ix3 0 n d)
  cb := line fun d : Fin 2816 => cb (ix2 0 d)
  wd := grid fun (n : Fin 2816) (d : Fin 1024) => wd (ix3 0 n d)
  gf := line fun d : Fin 1024 => gf (ix1 d)

section Arrs
variable (x md fm g wu cw cb wd gf)
theorem arrs_X (n : Fin 16384) (d : Fin 1024) : x (ix3 0 n d) = (arrs x md fm g wu cw cb wd gf).X n d := (grid_val (fun n d => x (ix3 0 n d)) n d).symm
theorem arrs_mod (d : Fin 3072) : md (ix2 0 d) = (arrs x md fm g wu cw cb wd gf).mod d := (line_val (fun d => md (ix2 0 d)) d).symm
theorem arrs_fm (d : Fin 2048) : fm (ix2 0 d) = (arrs x md fm g wu cw cb wd gf).fm d := (line_val (fun d => fm (ix2 0 d)) d).symm
theorem arrs_g (d : Fin 1024) : g (ix2 0 d) = (arrs x md fm g wu cw cb wd gf).g d := (line_val (fun d => g (ix2 0 d)) d).symm
theorem arrs_wu (n : Fin 1024) (d : Fin 5632) : wu (ix3 0 n d) = (arrs x md fm g wu cw cb wd gf).wu n d := (grid_val (fun n d => wu (ix3 0 n d)) n d).symm
theorem arrs_cw (n : Fin 3) (d : Fin 2816) : cw (ix3 0 n d) = (arrs x md fm g wu cw cb wd gf).cw n d := (grid_val (fun n d => cw (ix3 0 n d)) n d).symm
theorem arrs_cb (d : Fin 2816) : cb (ix2 0 d) = (arrs x md fm g wu cw cb wd gf).cb d := (line_val (fun d => cb (ix2 0 d)) d).symm
theorem arrs_wd (n : Fin 2816) (d : Fin 1024) : wd (ix3 0 n d) = (arrs x md fm g wu cw cb wd gf).wd n d := (grid_val (fun n d => wd (ix3 0 n d)) n d).symm
theorem arrs_gf (d : Fin 1024) : gf (ix1 d) = (arrs x md fm g wu cw cb wd gf).gf d := (line_val (fun d => gf (ix1 d)) d).symm

/-- The reference's result at a token and a feature. -/
theorem stages_apply (n : Fin 16384) (d : Fin 1024) :
    out (res x md (act (up (hid x md g) wu) (conv (up (hid x md g) wu) cw cb)) wd) fm gf (ix2 n d) = (arrs x md fm g wu cw cb wd gf).out n d := by
  have hx := arrs_X x md fm g wu cw cb wd gf
  have hm := arrs_mod x md fm g wu cw cb wd gf
  have hu := up_apply _ wu (hid_apply x md g hx hm (arrs_g x md fm g wu cw cb wd gf)) (arrs_wu x md fm g wu cw cb wd gf)
  have hc := conv_apply _ cw cb hu (arrs_cw x md fm g wu cw cb wd gf) (arrs_cb x md fm g wu cw cb wd gf)
  exact out_apply _ fm gf (res_apply x md _ wd hx hm (act_apply _ _ hu hc) (arrs_wd x md fm g wu cw cb wd gf))
    (arrs_fm x md fm g wu cw cb wd gf) (arrs_gf x md fm g wu cw cb wd gf) n d
end Arrs

end Cert.Proof.Ffn.Ref
end
-- ==== Proof.Value5.lean ====
/- The value claim: the kernel's nine inputs hold the arguments, so its result is the reference's. -/
module

public import proofs.«01_k».proof.Proof.Value4
public import proofs.«01_k».proof.Proof.Ref
public import Idealize.ShloMosaic.Lib.Claim
public import Idealize.ShloMosaic.Lib.Pipeline.ValueKit
@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Args
variable (m : (ℓ : Loc nD τ sig) → Buf (Elt Ideal) ℓ) (c : Dev nD)

/-- The arrays the nine arguments hold on a device. -/
def argArr : Arr :=
  Ref.arrs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

theorem rep_whole (b : Ref sig .tc) (x : b.ty.Contents (Elt Ideal)) : (View.whole b).rep (Val := Elt Ideal) x = x :=
  View.read_rep (Val := Elt Ideal) (View.whole b) x

theorem host0 (i : S16384x1024.Idx) : V m c main_v0 i = m ((c : Thread nD τ).loc main_arg0) (ix3 0 (i 0) (i 1)) := by
  idx_vars i
  entry_read
  pointwise

/-! Each staged operand is its whole array, and that array is an argument, as given or as the host prepared it. -/

theorem blk1 (i : S1x3072.Idx) : iblk m c 0 t0_0 i = m ((c : Thread nD τ).loc main_arg1) i := by
  have e : (cfg0.win 0).index t0_0 = ![0, 0] := by decide +kernel
  idx_vars i
  blk_ext! [iblk, V, e]
theorem at1 (i : S1x3072.Idx) : ((inp m c).a1 : S1x3072.Idx → EReal) i = iblk m c 0 t0_0 i := by
  rw [inp_a1]
  exact congrFun (rep_whole cc0_stg0_0 (iblk m c 0 t0_0)) i
theorem blk2 (i : S1x2048.Idx) : iblk m c 1 t0_0 i = m ((c : Thread nD τ).loc main_arg2) i := by
  have e : (cfg0.win 1).index t0_0 = ![0, 0] := by decide +kernel
  idx_vars i
  blk_ext! [iblk, V, e]
theorem at2 (i : S1x2048.Idx) : ((inp m c).a2 : S1x2048.Idx → EReal) i = iblk m c 1 t0_0 i := by
  rw [inp_a2]
  exact congrFun (rep_whole cc0_stg1_0 (iblk m c 1 t0_0)) i
theorem blk3 (i : S1x1024.Idx) : iblk m c 2 t0_0 i = m ((c : Thread nD τ).loc main_arg3) i := by
  have e : (cfg0.win 2).index t0_0 = ![0, 0] := by decide +kernel
  idx_vars i
  blk_ext! [iblk, V, e]
theorem at3 (i : S1x1024.Idx) : ((inp m c).a3 : S1x1024.Idx → EReal) i = iblk m c 2 t0_0 i := by
  rw [inp_a3]
  exact congrFun (rep_whole cc0_stg2_0 (iblk m c 2 t0_0)) i
theorem blk4 (i : S1024x5632.Idx) : iblk m c 3 t0_0 i = m ((c : Thread nD τ).loc main_arg4) (ix3 0 (i 0) (i 1)) := by
  have e : (cfg0.win 3).index t0_0 = ![0, 0] := by decide +kernel
  idx_vars i
  have h : iblk m c 3 t0_0 (ix2 i0 i1) = V m c main_v2 (ix2 i0 i1) := by
    unfold iblk
    blk_ext [e]
  rw [h]
  entry_read
  pointwise
theorem at4 (i : S1024x5632.Idx) : ((inp m c).a4 : S1024x5632.Idx → EReal) i = iblk m c 3 t0_0 i := by
  rw [inp_a4]
  exact congrFun (rep_whole cc0_stg3_0 (iblk m c 3 t0_0)) i
theorem blk5 (i : S3x2816.Idx) : iblk m c 4 t0_0 i = m ((c : Thread nD τ).loc main_arg5) (ix3 0 (i 0) (i 1)) := by
  have e : (cfg0.win 4).index t0_0 = ![0, 0] := by decide +kernel
  idx_vars i
  have h : iblk m c 4 t0_0 (ix2 i0 i1) = V m c main_v3 (ix2 i0 i1) := by
    unfold iblk
    blk_ext [e]
  rw [h]
  entry_read
  pointwise
theorem at5 (i : S3x2816.Idx) : ((inp m c).a5 : S3x2816.Idx → EReal) i = iblk m c 4 t0_0 i := by
  rw [inp_a5]
  exact congrFun (rep_whole cc0_stg4_0 (iblk m c 4 t0_0)) i
theorem blk6 (i : S1x2816.Idx) : iblk m c 5 t0_0 i = m ((c : Thread nD τ).loc main_arg6) i := by
  have e : (cfg0.win 5).index t0_0 = ![0, 0] := by decide +kernel
  idx_vars i
  blk_ext! [iblk, V, e]
theorem at6 (i : S1x2816.Idx) : ((inp m c).a6 : S1x2816.Idx → EReal) i = iblk m c 5 t0_0 i := by
  rw [inp_a6]
  exact congrFun (rep_whole cc0_stg5_0 (iblk m c 5 t0_0)) i
theorem blk7 (i : S2816x1024.Idx) : iblk m c 6 t0_0 i = m ((c : Thread nD τ).loc main_arg7) (ix3 0 (i 0) (i 1)) := by
  have e : (cfg0.win 6).index t0_0 = ![0, 0] := by decide +kernel
  idx_vars i
  have h : iblk m c 6 t0_0 (ix2 i0 i1) = V m c main_v5 (ix2 i0 i1) := by
    unfold iblk
    blk_ext [e]
  rw [h]
  entry_read
  pointwise
theorem at7 (i : S2816x1024.Idx) : ((inp m c).a7 : S2816x1024.Idx → EReal) i = iblk m c 6 t0_0 i := by
  rw [inp_a7]
  exact congrFun (rep_whole cc0_stg6_0 (iblk m c 6 t0_0)) i
theorem blk8 (i : S1024.Idx) : iblk m c 7 t0_0 i = m ((c : Thread nD τ).loc main_arg8) i := by
  have e : (cfg0.win 7).index t0_0 = ![0] := by decide +kernel
  idx_vars i
  blk_ext! [iblk, V, e]
theorem at8 (i : S1024.Idx) : ((inp m c).a8 : S1024.Idx → EReal) i = iblk m c 7 t0_0 i := by
  rw [inp_a8]
  exact congrFun (rep_whole cc0_stg7_0 (iblk m c 7 t0_0)) i

theorem reads_inp : Reads (inp m c) (argArr m c) where
  x i := by
    idx_vars i
    rw [inp_x]
    exact (host0 m c _).trans (Ref.arrs_X _ _ _ _ _ _ _ _ _ i0 i1)
  a1 i := by
    idx_vars i
    obtain rfl : i0 = 0 := Subsingleton.elim _ _
    exact (at1 m c _).trans ((blk1 m c _).trans (Ref.arrs_mod _ _ _ _ _ _ _ _ _ i1))
  a2 i := by
    idx_vars i
    obtain rfl : i0 = 0 := Subsingleton.elim _ _
    exact (at2 m c _).trans ((blk2 m c _).trans (Ref.arrs_fm _ _ _ _ _ _ _ _ _ i1))
  a3 i := by
    idx_vars i
    obtain rfl : i0 = 0 := Subsingleton.elim _ _
    exact (at3 m c _).trans ((blk3 m c _).trans (Ref.arrs_g _ _ _ _ _ _ _ _ _ i1))
  a4 i := by
    idx_vars i
    exact (at4 m c _).trans ((blk4 m c _).trans (Ref.arrs_wu _ _ _ _ _ _ _ _ _ i0 i1))
  a5 i := by
    idx_vars i
    exact (at5 m c _).trans ((blk5 m c _).trans (Ref.arrs_cw _ _ _ _ _ _ _ _ _ i0 i1))
  a6 i := by
    idx_vars i
    obtain rfl : i0 = 0 := Subsingleton.elim _ _
    exact (at6 m c _).trans ((blk6 m c _).trans (Ref.arrs_cb _ _ _ _ _ _ _ _ _ i1))
  a7 i := by
    idx_vars i
    exact (at7 m c _).trans ((blk7 m c _).trans (Ref.arrs_wd _ _ _ _ _ _ _ _ _ i0 i1))
  a8 i := by
    idx_vars i
    exact (at8 m c _).trans ((blk8 m c _).trans (Ref.arrs_gf _ _ _ _ _ _ _ _ _ i0))

/-- The result on a device: at every token and feature, the layer's tail on the arguments. -/
def G : Buf (Elt Ideal) ((c : Thread nD τ).loc main_v6) := fun i : S16384x1024.Idx => (argArr m c).out (i 0).val (i 1).val

theorem result_G {r} (h : QC m r) : r.2.mem ((c : Thread nD τ).loc main_v6) = G m c := by
  obtain ⟨g1, g2, hh⟩ := (h c).2.1
  funext i
  have e := result_eq (reads_inp m c) g1 g2 _ hh (i 0) (i 1)
  exact (congrArg (r.2.mem ((c : Thread nD τ).loc main_v6)) (ix2_eta i).symm).trans e
end Args

/-- The reference's result, from a memory holding the same arguments. -/
theorem reference_G (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c : Thread nD τ).loc main_arg0))
    (h1 : m' ((c.tc : Thread Cert.ReferenceIdeal.nD Cert.ReferenceIdeal.τ).loc Cert.ReferenceIdeal.main_arg1) = m ((c : Thread nD τ).loc main_arg1))
    (h2 : m' ((c.tc : Thread Cert.ReferenceIdeal.nD Cert.ReferenceIdeal.τ).loc Cert.ReferenceIdeal.main_arg2) = m ((c : Thread nD τ).loc main_arg2))
    (h3 : m' ((c.tc : Thread Cert.ReferenceIdeal.nD Cert.ReferenceIdeal.τ).loc Cert.ReferenceIdeal.main_arg3) = m ((c : Thread nD τ).loc main_arg3))
    (h4 : m' ((c.tc : Thread Cert.ReferenceIdeal.nD Cert.ReferenceIdeal.τ).loc Cert.ReferenceIdeal.main_arg4) = m ((c : Thread nD τ).loc main_arg4))
    (h5 : m' ((c.tc : Thread Cert.ReferenceIdeal.nD Cert.ReferenceIdeal.τ).loc Cert.ReferenceIdeal.main_arg5) = m ((c : Thread nD τ).loc main_arg5))
    (h6 : m' ((c.tc : Thread Cert.ReferenceIdeal.nD Cert.ReferenceIdeal.τ).loc Cert.ReferenceIdeal.main_arg6) = m ((c : Thread nD τ).loc main_arg6))
    (h7 : m' ((c.tc : Thread Cert.ReferenceIdeal.nD Cert.ReferenceIdeal.τ).loc Cert.ReferenceIdeal.main_arg7) = m ((c : Thread nD τ).loc main_arg7))
    (h8 : m' ((c.tc : Thread Cert.ReferenceIdeal.nD Cert.ReferenceIdeal.τ).loc Cert.ReferenceIdeal.main_arg8) = m ((c : Thread nD τ).loc main_arg8)) :
    Cert.ReferenceIdeal.Value.res_main_v93 m' c = G m c := by
  rw [Ref.res_eq]
  dsimp only
  rw [h0, h1, h2, h3, h4, h5, h6, h7, h8]
  funext i
  exact (congrArg _ (ix2_eta i).symm).trans (Ref.stages_apply _ _ _ _ _ _ _ _ _ (i 0) (i 1))

end Cert.Proof.Ffn
end
-- ==== Proof.Mod.lean ====
/- The modulation call's values: what its two grid points leave, against the reference's projection. -/
module

public import proofs.«01_k».proof.Proof.Gen.Kernel2Ideal.Value
public import proofs.«01_k».proof.Proof.Gen.Reference2Ideal.Run
public import Idealize.ShloMosaic.Lib.Pointwise
public import Idealize.ShloMosaic.Lib.Claim
public import Idealize.ShloMosaic.Lib.Pipeline.ValueKit

@[expose] public section

set_option maxRecDepth 16384

noncomputable section

namespace Cert.Proof.Mod

namespace Ref
open Cert.Reference2Ideal Cert.Reference2Ideal.Gen
open Idealize.ShloMosaic Idealize.ShloMosaic.TcCoe Idealize.ShloMosaic.Tactic Idealize.SL.Sem

/-! ## The reference -/

/-- The reference's first result as its operations give it. -/
def projected (x : FVec Ideal S1x1024 .f32) (w : FVec Ideal S1x1024x6144 .f32) (b : FVec Ideal S1x6144 .f32) : FVec Ideal S1x3072 .f32 :=
  extractStridedSlice S1x3072 ![0, 0] (addf (Host.dotGeneral dot_S1x1024_S1024x6144_S1x6144_1_0_0_1_n_n none (mulf x (Host.divf (broadcastInDim S1x1024 ![] bcast_S_S1x1024 (constant S_ .f32 0x3F800000#32)) (addf (broadcastInDim S1x1024 ![] bcast_S_S1x1024 (constant S_ .f32 0x3F800000#32)) (Host.exp (Host.negf x))))) (shapeCast _ w shapeCasts_S1x1024x6144_S1024x6144)) (broadcastInDim S1x6144 ![1] bcast_S6144_S1x6144_1 (shapeCast _ b shapeCasts_S1x6144_S6144))) slices_S1x6144_S1x3072_0_0

theorem projected_apply (x w b) (n : Fin 3072) : projected x w b (ix2 0 n)
    = b (ix2 0 ⟨n.val, by omega⟩) + ∑ k : Fin 1024, x (ix2 0 k) * Ideal.logistic (x (ix2 0 k)) * w (ix3 0 k ⟨n.val, by omega⟩) := by
  pointwise [projected]
  rw [add_comm]
  rfl

end Ref

open Cert.Kernel2Ideal Cert.Kernel2Ideal.Gen
open Idealize.ShloMosaic Idealize.ShloMosaic.TcCoe Idealize.ShloMosaic.Tactic Idealize.SL.Sem

/-- The row turned into a column. -/
theorem column (v : FVec Ideal S1x512 .f32) (k : Fin 512) : k0_pay1 (F := Ideal) v (ix2 k 0) = v (ix2 0 k) := by
  pointwise [k0_pay1]
  split_ifs with h1 h2 h3
  · rfl
  all_goals exact congrArg (fun q => v (ix2 0 q)) (Fin.ext (by simp only; omega))

/-- One grid point's share of the projection, added to what stood there. -/
theorem step (v : FVec Ideal S1x512 .f32) (a : FVec Ideal S1x3072 .f32) (w : FVec Ideal S512x3072 .f32) (n : Fin 3072) :
    k0_pay2 (F := Ideal) v a w (ix2 0 n) = a (ix2 0 n) + ∑ k : Fin 512, v (ix2 0 k) * Ideal.logistic (v (ix2 0 k)) * w (ix2 k n) := by
  pointwise [k0_pay2]
  simp only [column]

section Points
variable (m : (ℓ : Loc nD τ sig) → Buf (Elt Ideal) ℓ) (c : Dev nD)

/-- The blocks of the three arguments at a grid point. -/
def cBlk (t : Fin cfg0.N) : FVec Ideal S1x512 .f32 := iblk m c 0 t
def wBlk (t : Fin cfg0.N) : FVec Ideal S512x3072 .f32 := iblk m c 1 t
def bBlk (t : Fin cfg0.N) : FVec Ideal S1x3072 .f32 := iblk m c 2 t

/-- The arguments as arrays. -/
def cArg : FVec Ideal S1x1024 .f32 := m ((c : Thread nD τ).loc main_arg0)
def wArg : FVec Ideal S1x1024x6144 .f32 := m ((c : Thread nD τ).loc main_arg1)
def bArg : FVec Ideal S1x6144 .f32 := m ((c : Thread nD τ).loc main_arg2)

theorem cBlk_apply (t : Fin cfg0.N) (k : Fin 512) (h : 512 * t.val + k.val < 1024) : cBlk m c t (ix2 0 k) = cArg m c (ix2 0 ⟨512 * t.val + k.val, h⟩) := by
  have e : ∀ t : Fin cfg0.N, (cfg0.win 0).index t = ![0, t.val] := by decide +kernel
  unfold cBlk cArg
  blk_ext! [iblk, V, e t]
theorem bBlk_apply (t : Fin cfg0.N) (n : Fin 3072) : bBlk m c t (ix2 0 n) = bArg m c (ix2 0 ⟨n.val, by omega⟩) := by
  have e : ∀ t : Fin cfg0.N, (cfg0.win 2).index t = ![0, 0] := by decide +kernel
  unfold bBlk bArg
  blk_ext! [iblk, V, e t]
theorem wBlk_apply (t : Fin cfg0.N) (k : Fin 512) (n : Fin 3072) (h : 512 * t.val + k.val < 1024) :
    wBlk m c t (ix2 k n) = wArg m c (ix3 0 ⟨512 * t.val + k.val, h⟩ ⟨n.val, by omega⟩) := by
  have e : ∀ t : Fin cfg0.N, (cfg0.win 1).index t = ![t.val, 0] := by decide +kernel
  unfold wBlk wArg
  have h : iblk m c 1 t (ix2 k n) = V m c main_v0 (ix2 ⟨512 * t.val + k.val, h⟩ ⟨n.val, by omega⟩) := by
    unfold iblk
    blk_ext [e t]
  rw [h]
  entry_read
  pointwise

/-- The projection's first half at a column. -/
def G3 : Buf (Elt Ideal) ((c : Thread nD τ).loc main_v1_0) := fun i : S1x3072.Idx =>
  bArg m c (ix2 0 ⟨(i 1).val, by have := (i 1).isLt; change _ < 3072 at this; omega⟩)
    + ∑ k : Fin 1024, cArg m c (ix2 0 k) * Ideal.logistic (cArg m c (ix2 0 k)) * wArg m c (ix3 0 k ⟨(i 1).val, by have := (i 1).isLt; change _ < 3072 at this; omega⟩)

/-- What the output's block holds after a point. -/
def accum (n : ℕ) (h : n < cfg0.N) : S1x3072.Idx → EReal := (outsAt0 m c n h).1

theorem accum_first (t : Fin cfg0.N) (h : t.val % 2 = 0) (n : Fin 3072) :
    accum m c t.val t.isLt (ix2 0 n) = bBlk m c t (ix2 0 n) + ∑ k : Fin 512, cBlk m c t (ix2 0 k) * Ideal.logistic (cBlk m c t (ix2 0 k)) * wBlk m c t (ix2 k n) := by
  unfold accum
  rw [outsAt0_A m c t h]
  frame_out
  exact step (cBlk m c t) (bBlk m c t) (wBlk m c t) n
theorem accum_next (t : Fin cfg0.N) (h : ¬t.val % 2 = 0) (n : Fin 3072) :
    accum m c t.val t.isLt (ix2 0 n) = accum m c (t.val - 1) (Nat.lt_of_le_of_lt (Nat.sub_le _ _) t.isLt) (ix2 0 n)
      + ∑ k : Fin 512, cBlk m c t (ix2 0 k) * Ideal.logistic (cBlk m c t (ix2 0 k)) * wBlk m c t (ix2 k n) := by
  unfold accum
  rw [outsAt0_B m c t h]
  frame_out
  exact step (cBlk m c t) _ (wBlk m c t) n

theorem total (n : Fin 3072) : accum m c 1 t0_1.isLt (ix2 0 n) = G3 m c (ix2 0 n) := by
  refine (accum_next m c t0_1 (by decide) n).trans ?_
  rw [show accum m c (t0_1.val - 1) _ (ix2 0 n) = _ from accum_first m c t0_0 rfl n, add_assoc]
  unfold G3
  refine congrArg₂ (· + ·) (bBlk_apply m c t0_0 n) ?_
  refine Eq.trans ?_ (Fin.sum_univ_add (a := 512) (b := 512) fun k : Fin 1024 =>
    cArg m c (ix2 0 k) * Ideal.logistic (cArg m c (ix2 0 k)) * wArg m c (ix3 0 k ⟨n.val, by omega⟩)).symm
  have z : t0_0.val = 0 := rfl
  have o : t0_1.val = 1 := rfl
  refine congrArg₂ (· + ·) (Finset.sum_congr rfl fun k _ => ?_) (Finset.sum_congr rfl fun k _ => ?_)
  · rw [cBlk_apply m c t0_0 k (by omega), wBlk_apply m c t0_0 k n (by omega),
      show (⟨512 * t0_0.val + k.val, by omega⟩ : Fin 1024) = Fin.castAdd 512 k from Fin.ext (by simp only [Fin.val_castAdd]; omega)]
  · rw [cBlk_apply m c t0_1 k (by omega), wBlk_apply m c t0_1 k n (by omega),
      show (⟨512 * t0_1.val + k.val, by omega⟩ : Fin 1024) = Fin.natAdd 512 k from Fin.ext (by simp only [Fin.val_natAdd]; omega)]

theorem arr3 : (dats m 0 c).arrAt 3 cfg0.N = G3 m c := by
  refine (dats m 0 c).arrAt_eq_of_after_last 3 t0_1 (by decide +kernel) _ fun j => ?_
  blk_simp
  rw [after0_3]
  have e : ∀ j : S1x3072.Idx, accum m c 1 t0_1.isLt j = G3 m c j := fun j => by
    idx_vars j
    obtain rfl : j0 = 0 := Subsingleton.elim _ _
    exact total m c j1
  exact e j

/-- The column of the conditioning vector. -/
def G4 : Buf (Elt Ideal) ((c : Thread nD τ).loc main_v1_1) := fun i : S1024x1.Idx => cArg m c (ix2 0 (i 0))

theorem column_at (t : Fin cfg0.N) (k : Fin 512) (h : 512 * t.val + k.val < 1024) :
    ((outsAt0 m c t.val t.isLt).2 : S512x1.Idx → EReal) (ix2 k 0) = G4 m c (ix2 ⟨512 * t.val + k.val, h⟩ 0) := by
  refine Eq.trans ?_ (cBlk_apply m c t k h)
  refine Eq.trans ?_ (column (cBlk m c t) k)
  by_cases ht : t.val % 2 = 0
  · rw [outsAt0_A m c t ht]
    frame_out
    rfl
  · rw [outsAt0_B m c t ht]
    frame_out
    rfl

theorem arr4 : (dats m 0 c).arrAt 4 cfg0.N = G4 m c := by
  refine (dats m 0 c).arrAt_eq_of_covers 4 _ (by decide +kernel) fun t hf y => ?_
  have e : ∀ t : Fin cfg0.N, (cfg0.win 4).index t = ![t.val, 0] := by decide +kernel
  blk_simp
  rw [after0_4]
  have hN : t.val < 2 := lt_of_lt_of_eq t.isLt N_0
  have key : ∀ y : S512x1.Idx, ((outsAt0 m c t.val t.isLt).2 : S512x1.Idx → EReal) y = G4 m c ((win0_4.blk t).view.emb y) := fun y => by
    idx_vars y
    obtain rfl : y1 = 0 := Subsingleton.elim _ _
    refine (column_at m c t y0 (by omega)).trans ?_
    blk_ext [e t]
  exact key y
end Points

section Equal
variable (m : (ℓ : Loc nD τ sig) → Buf (Elt Ideal) ℓ) (c : Dev nD)
theorem projected_G3 : Ref.projected (m ((c : Thread nD τ).loc main_arg0)) (m ((c : Thread nD τ).loc main_arg1)) (m ((c : Thread nD τ).loc main_arg2)) = G3 m c := by
  funext i
  idx_vars i
  obtain rfl : i0 = 0 := Subsingleton.elim _ _
  exact Ref.projected_apply _ _ _ i1

theorem reshaped_G4 (h) : shapeCast Cert.Reference2Ideal.S1024x1 (m ((c : Thread nD τ).loc main_arg0) : FVec Ideal Cert.Reference2Ideal.S1x1024 .f32) h = G4 m c := by
  funext i
  idx_vars i
  obtain rfl : i1 = 0 := Subsingleton.elim _ _
  pointwise
  rfl
end Equal
end Cert.Proof.Mod
end
-- ==== Proof.lean ====
module

public import proofs.«01_k».proof.Defs
public import proofs.«01_k».proof.Proof.Run
public import proofs.«01_k».proof.Proof.Value5
public import proofs.«01_k».proof.Proof.Mod
public import proofs.«01_k».proof.Proof.Gen.Kernel
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run

@[expose] public section

set_option maxRecDepth 16384

noncomputable section

namespace Cert.Proof

open Idealize.ShloMosaic Idealize.ShloMosaic.TcCoe Idealize.SL.Sem

theorem frame_kernelIdeal : Cert.quiescent_KernelIdeal := fun m ρ _ =>
  (θ_run Cert.KernelIdeal.defs _ _).mono (fun _ h => h) (Ffn.run_frame m ρ)

/-! The two programs are one text: the kernel function, the table that holds it, the whole. -/

theorem eq_body : @Cert.Kernel.cc0_convglu_ffn Bits _ _ = @Cert.KernelIdeal.cc0_convglu_ffn Bits _ _ := rfl
theorem eq_defs₀ : @Cert.Kernel.defs₀ Bits _ _ = @Cert.KernelIdeal.defs₀ Bits _ _ := by
  unfold Cert.Kernel.defs₀ Cert.KernelIdeal.defs₀
  refine congrArg (Defs.onTc (nD := Cert.KernelIdeal.nD) (τ := Cert.KernelIdeal.τ) (sig := Cert.KernelIdeal.sig)) (funext fun l => funext fun a => ?_)
  match l, a with
  | 0, (t, s) => rfl
  | ⟨_ + 1, h⟩, _ => exact absurd h (Nat.not_lt.2 (Nat.le_add_left _ _))
theorem eq_defs : @Cert.Kernel.defs Bits _ _ = @Cert.KernelIdeal.defs Bits _ _ :=
  congrArg (Pipeline.defs (Cert.KernelIdeal.pcfgs (F := Bits))) eq_defs₀
theorem eq_main : @Cert.Kernel.main Bits _ _ = @Cert.KernelIdeal.main Bits _ _ := rfl

/-- The same run at the machine's floats. -/
theorem frame_kernel : Cert.quiescent_Kernel := fun m ρ _ => by
  rw [eq_defs, eq_main]
  exact (θ_run Cert.KernelIdeal.defs _ _).mono (fun _ h => h) (Ffn.run_frame (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- Over the reals the two results are one array, the layer's tail on the arguments. -/
theorem algebraic : Cert.algebraic_KernelIdeal_ReferenceIdeal := fun m ρ m' ρ' _ hag =>
  ⟨fun c => Ffn.G m c,
   (θ_run Cert.KernelIdeal.defs _ _).mono (fun _ h c => ⟨Ffn.result_G m c h.1, Ffn.args_kept m c h.1⟩) (Ffn.run_main m ρ),
   (θ_run Cert.ReferenceIdeal.defs _ _).mono (fun r h c => ⟨(h c).1.trans (by
     obtain ⟨h0, h1, h2, h3, h4, h5, h6, h7, h8⟩ := hag c
     exact Ffn.reference_G m m' c h0 h1 h2 h3 h4 h5 h6 h7 h8), (h c).2⟩) (Cert.ReferenceIdeal.Value.run (F := Ideal) m' ρ')⟩

/-! The modulation call: its frames are the generated runs', its values Proof/Mod.lean's. -/

theorem frame_kernel2 : Cert.quiescent_Kernel2 := fun m ρ _ => Cert.Kernel2.Gen.frame m ρ
theorem frame_kernel2Ideal : Cert.quiescent_Kernel2Ideal := fun m ρ _ => Cert.Kernel2Ideal.Gen.frame m ρ
theorem frame_reference2 : Cert.quiescent_Reference2Ideal := fun m ρ _ =>
  (θ_run Cert.Reference2Ideal.defs _ _).mono (fun r h => ⟨fun c => (h c).2.2, sem_eq_zero_of_no_sems (by decide) r.2⟩) (Cert.Reference2Ideal.Value.run (F := Ideal) m ρ)

/-- Over the reals the call's two results are the projection's first half and the conditioning vector as a column. -/
theorem algebraic2 : Cert.algebraic_Kernel2Ideal_Reference2Ideal := fun m ρ m' ρ' _ hag =>
  ⟨fun c => Mod.G3 m c, fun c => Mod.G4 m c,
   (θ_run Cert.Kernel2Ideal.defs _ _).mono (fun _ h c => ⟨(h c).1.trans (Mod.arr3 m c), (h c).2.1.trans (Mod.arr4 m c), (h c).2.2⟩)
     (Cert.Kernel2Ideal.Value.run_blocks m ρ),
   (θ_run Cert.Reference2Ideal.defs _ _).mono (fun r h c => by
     obtain ⟨h0, h1, h2⟩ := hag c
     refine ⟨(h c).1.trans ?_, (h c).2.1.trans ?_, (h c).2.2⟩
     · rw [h0, h1, h2]; exact Mod.projected_G3 m c
     · rw [h0]; exact Mod.reshaped_G4 m c _) (Cert.Reference2Ideal.Value.run (F := Ideal) m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  frame_kernel, frame_kernelIdeal, frame_reference, frame_kernel2, frame_kernel2Ideal, frame_reference2,
  trivial, algebraic, trivial, algebraic2⟩

end Cert.Proof

end
